-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x2048x1024 : Shape := ⟨3, ![3, 2048, 1024]⟩
abbrev S1024x8192 : Shape := ⟨2, ![1024, 8192]⟩
abbrev S8192 : Shape := ⟨1, ![8192]⟩
abbrev S3x2048x8192 : Shape := ⟨3, ![3, 2048, 8192]⟩
abbrev S_ : Shape := ⟨0, ![]⟩

class Facts : Prop where
  bitsLt_bf16_f32 : FTy.bits .bf16 < FTy.bits .f32
  bcast_S_S3x2048x1024 : S_.BroadcastsInDim S3x2048x1024 (![] : Fin 0 → Fin S3x2048x1024.rank)
  reducesTo_S3x2048x1024_S_d0_1_2 : S3x2048x1024.ReducesTo [0, 1, 2] S_
  h_S_ : 0 < S_.numel

variable [Facts]

def fn {F : FTy → Type} [FloatOps F] (main_arg0 : FVec F S3x2048x1024 .bf16) (main_arg1 : FVec F S1024x8192 .fp8e4m3) (main_arg2 : FVec F S8192 .f32) (main_arg3 : FVec F S3x2048x8192 .bf16) : IVec S_ 1 :=
  let main_v0 : FVec F S3x2048x1024 .f32 := (extf .f32 · bitsLt_bf16_f32) main_arg0
  let main_v1 : FVec F S3x2048x1024 .f32 := Host.absf main_v0
  let main_cst : FVec F S_ .f32 := constant S_ .f32 0x7F7F0000#32
  let main_v2 : FVec F S3x2048x1024 .f32 := broadcastInDim S3x2048x1024 ![] bcast_S_S3x2048x1024 main_cst
  let main_v3 : IVec S3x2048x1024 1 := cmpf .ole main_v1 main_v2
  let main_c : IVec S_ 1 := constantI S_ 1 1#1
  let main_v4 : IVec S_ 1 := (fun x v => Host.reduce IntOp.andi x v reducesTo_S3x2048x1024_S_d0_1_2 h_S_) main_v3 main_c
  main_v4
-- ==== Kernel.lean ====
abbrev S3x2048x1024 : Shape := ⟨3, ![3, 2048, 1024]⟩
abbrev S1024x8192 : Shape := ⟨2, ![1024, 8192]⟩
abbrev S8192 : Shape := ⟨1, ![8192]⟩
abbrev S3x2048x8192 : Shape := ⟨3, ![3, 2048, 8192]⟩
abbrev S1x8192 : Shape := ⟨2, ![1, 8192]⟩
abbrev S3x256x8x8192 : Shape := ⟨4, ![3, 256, 8, 8192]⟩
abbrev S3x2048x1 : Shape := ⟨3, ![3, 2048, 1]⟩
abbrev S1x256x1024 : Shape := ⟨3, ![1, 256, 1024]⟩
abbrev S1x256x8192 : Shape := ⟨3, ![1, 256, 8192]⟩
abbrev S1x32x8x8192 : Shape := ⟨4, ![1, 32, 8, 8192]⟩
abbrev S1x256x1 : Shape := ⟨3, ![1, 256, 1]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x512 : Shape := ⟨2, ![1, 512]⟩
abbrev S1x256x512 : Shape := ⟨3, ![1, 256, 512]⟩
abbrev S32x8x512 : Shape := ⟨3, ![32, 8, 512]⟩
abbrev S1x32x8x512 : Shape := ⟨4, ![1, 32, 8, 512]⟩

abbrev nBuf : Space → Nat
  | .hbm => 8
  | .vmem => 12
  | .smem => 0
  | _ => 0

abbrev bufTy : (tb : Table) → Fin (tcTables nBuf tb) → BufTy
  | .hbm, ⟨0, _⟩ => ⟨S3x2048x1024, .bf16⟩
  | .hbm, ⟨1, _⟩ => ⟨S1024x8192, .fp8e4m3⟩
  | .hbm, ⟨2, _⟩ => ⟨S8192, .f32⟩
  | .hbm, ⟨3, _⟩ => ⟨S3x2048x8192, .bf16⟩
  | .hbm, ⟨4, _⟩ => ⟨S1x8192, .f32⟩
  | .hbm, ⟨5, _⟩ => ⟨S3x256x8x8192, .bf16⟩
  | .hbm, ⟨6, _⟩ => ⟨S3x2048x1024, .fp8e4m3⟩
  | .hbm, ⟨7, _⟩ => ⟨S3x2048x1, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x8192, .fp8e4m3⟩
  | .local _ .vmem, ⟨3, _⟩ => ⟨S1x8192, .f32⟩
  | .local _ .vmem, ⟨4, _⟩ => ⟨S1x256x8192, .bf16⟩
  | .local _ .vmem, ⟨5, _⟩ => ⟨S1x256x8192, .bf16⟩
  | .local _ .vmem, ⟨6, _⟩ => ⟨S1x32x8x8192, .bf16⟩
  | .local _ .vmem, ⟨7, _⟩ => ⟨S1x32x8x8192, .bf16⟩
  | .local _ .vmem, ⟨8, _⟩ => ⟨S1x256x1024, .fp8e4m3⟩
  | .local _ .vmem, ⟨9, _⟩ => ⟨S1x256x1024, .fp8e4m3⟩
  | .local _ .vmem, ⟨10, _⟩ => ⟨S1x256x1, .f32⟩
  | .local _ .vmem, ⟨11, _⟩ => ⟨S1x256x1, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x8x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S3x2048x1024 : Shape := ⟨3, ![3, 2048, 1024]⟩
abbrev S1024x8192 : Shape := ⟨2, ![1024, 8192]⟩
abbrev S8192 : Shape := ⟨1, ![8192]⟩
abbrev S3x2048x8192 : Shape := ⟨3, ![3, 2048, 8192]⟩
abbrev S3x256x8x8192 : Shape := ⟨4, ![3, 256, 8, 8192]⟩
abbrev S3x2048x1 : Shape := ⟨3, ![3, 2048, 1]⟩
abbrev S3x2048 : Shape := ⟨2, ![3, 2048]⟩
abbrev S1x1x8192 : Shape := ⟨3, ![1, 1, 8192]⟩

abbrev nBuf : Space → Nat
  | .hbm => 7
  | .vmem => 7
  | .smem => 0
  | _ => 0

abbrev bufTy : (tb : Table) → Fin (tcTables nBuf tb) → BufTy
  | .hbm, ⟨0, _⟩ => ⟨S3x2048x1024, .bf16⟩
  | .hbm, ⟨1, _⟩ => ⟨S1024x8192, .fp8e4m3⟩
  | .hbm, ⟨2, _⟩ => ⟨S8192, .f32⟩
  | .hbm, ⟨3, _⟩ => ⟨S3x2048x8192, .bf16⟩
  | .hbm, ⟨4, _⟩ => ⟨S3x256x8x8192, .bf16⟩
  | .hbm, ⟨5, _⟩ => ⟨S3x2048x1024, .fp8e4m3⟩
  | .hbm, ⟨6, _⟩ => ⟨S3x2048x1, .f32⟩
  | .local _ .vmem, ⟨0, _⟩ => ⟨S3x2048x1024, .bf16⟩
  | .local _ .vmem, ⟨1, _⟩ => ⟨S1024x8192, .fp8e4m3⟩
  | .local _ .vmem, ⟨2, _⟩ => ⟨S8192, .f32⟩
  | .local _ .vmem, ⟨3, _⟩ => ⟨S3x2048x8192, .bf16⟩
  | .local _ .vmem, ⟨4, _⟩ => ⟨S3x256x8x8192, .bf16⟩
  | .local _ .vmem, ⟨5, _⟩ => ⟨S3x2048x1024, .fp8e4m3⟩
  | .local _ .vmem, ⟨6, _⟩ => ⟨S3x2048x1, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x8x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2048x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/- The power-of-two scale of a row, computed two ways, over the extended reals.

   The kernel finds the exponent field of `v = amax · c` by comparing `v` with the eight candidate powers of two of a
   binary search, and builds the scale and its inverse as float words (exponent field, zero significand). The
   reference takes `⌊log v / log 2⌋ + 1` and `2^e`. `scale_eq` and `inv_eq` say that the two agree whenever
   `amax` is a real number in `[0, 2^128)`. -/
module

public import Idealize.ShloMosaic.Lib.ValueIdx
public import Idealize.ShloMosaic.PureOps

@[expose] public section

noncomputable section

namespace Cert.Proof.Exponent

open Idealize.ShloMosaic Idealize.ShloMosaic.ValueIdx

/-! ## The kernel's reading of the exponent -/

/-- The float whose exponent field is the word `w` (shifted into place) and whose significand is zero. -/
def pw (w : BitVec 32) : EReal := Ideal.ofBits .f32 (IntOp.shli .vector w 23#32)

/-- One step of the search: `b + s` if its power of two is at most `v`, else `b`. -/
def step (v : EReal) (b s : BitVec 32) : BitVec 32 :=
  Scalar.select (Ideal.cmp .oge v (pw (IntOp.addi b s))) (IntOp.addi b s) b

/-- The exponent field of `v`: eight steps from zero. -/
def biased (v : EReal) : BitVec 32 :=
  step v (step v (step v (step v (step v (step v (step v (step v 0#32 128#32) 64#32) 32#32) 16#32) 8#32) 4#32) 2#32) 1#32

/-- The row's scaled maximum: `amax` times the float nearest 1/448. -/
def scaled (a : EReal) : EReal := a * Ideal.ofBits .f32 0x3B124925#32

/-- The kernel's exponent word: zero for the special fields and a zero row, else the field minus 126. -/
def kexp (a : EReal) : BitVec 32 :=
  Scalar.select
    (IntOp.ori (IntOp.ori (IntOp.cmpi .eq (biased (scaled a)) 0#32) (IntOp.cmpi .eq (biased (scaled a)) 255#32))
      (Ideal.cmp .oeq a (Ideal.ofBits .f32 0x00000000#32)))
    0#32 (IntOp.subi (biased (scaled a)) 126#32)

/-- The kernel's scale: the float with exponent field `kexp + 127`. -/
def kscale (a : EReal) : EReal := pw (IntOp.addi (kexp a) 127#32)

/-- The kernel's inverse scale: the float with exponent field `-kexp + 127`. -/
def kinv (a : EReal) : EReal := pw (IntOp.addi (IntOp.subi 0#32 (kexp a)) 127#32)

/-! ## The reference's -/

/-- The reference's exponent: zero for a zero row or a subnormal `v`, else `⌊log v / log 2⌋ + 1`. -/
def rexp (a : EReal) : EReal :=
  Scalar.select (Ideal.cmp .oeq a (Ideal.ofBits .f32 0x00000000#32)) (Ideal.ofBits .f32 0x00000000#32)
    (Scalar.select (Ideal.cmp .olt (scaled a) (Ideal.ofBits .f32 0x00800000#32)) (Ideal.ofBits .f32 0x00000000#32)
      (Ideal.liftRound Int.floor (Ideal.div (Ideal.log (scaled a)) (Ideal.log (Ideal.ofBits .f32 0x40000000#32)))
        + Ideal.ofBits .f32 0x3F800000#32))

/-- The reference's scale `2^e`. -/
def rscale (a : EReal) : EReal := Ideal.exp2 (rexp a)

/-- The reference's inverse scale `2^(0 - e)`. -/
def rinv (a : EReal) : EReal := Ideal.exp2 (Ideal.ofBits .f32 0x00000000#32 - rexp a)

/-! ## Words as reals -/

/-- The zero word is zero. -/
theorem zero_word : Ideal.ofBits .f32 0x00000000#32 = 0 := by
  simp [Ideal.ofBits, Ideal.ieee, -EReal.coe_mul]

/-- The word of one is one. -/
theorem one_word : Ideal.ofBits .f32 0x3F800000#32 = ((1 : ℝ) : EReal) := by
  simp [Ideal.ofBits, Ideal.ieee, -EReal.coe_mul]; norm_num

/-- The word of two is two. -/
theorem two_word : Ideal.ofBits .f32 0x40000000#32 = ((2 : ℝ) : EReal) := by
  simp [Ideal.ofBits, Ideal.ieee, -EReal.coe_mul]; norm_num

/-- The smallest normal word is `2^-126`. -/
theorem tiny_word : Ideal.ofBits .f32 0x00800000#32 = (((2 : ℝ) ^ (-126 : ℤ) : ℝ) : EReal) := by
  simp [Ideal.ofBits, Ideal.ieee, -EReal.coe_mul]; norm_num

/-- The constant the row maximum is multiplied by: a positive real below `2^-8`. -/
theorem scale_word : Ideal.ofBits .f32 0x3B124925#32 = ((9586981 / 4294967296 : ℝ) : EReal) := by
  simp [Ideal.ofBits, Ideal.ieee, -EReal.coe_mul]; norm_num

/-- `field` for all 256 field values. -/
theorem field_all : ∀ k : Fin 256, ((IntOp.shli .vector (BitVec.ofNat 32 k.val) 23#32).extractLsb' 31 1 = 0#1)
      ∧ ((IntOp.shli .vector (BitVec.ofNat 32 k.val) 23#32).extractLsb' 23 8).toNat = k.val
      ∧ ((IntOp.shli .vector (BitVec.ofNat 32 k.val) 23#32).extractLsb' 0 23).toNat = 0 := by
  decide +kernel

/-- The exponent field of the word `n << 23`, for a field value `n`. -/
theorem field (n : Nat) (h : n ≤ 255) :
    ((IntOp.shli .vector (BitVec.ofNat 32 n) 23#32).extractLsb' 31 1 = 0#1)
      ∧ ((IntOp.shli .vector (BitVec.ofNat 32 n) 23#32).extractLsb' 23 8).toNat = n
      ∧ ((IntOp.shli .vector (BitVec.ofNat 32 n) 23#32).extractLsb' 0 23).toNat = 0 := by
  have := field_all (Fin.mk n (Nat.lt_succ_of_le h))
  exact this

/-- The float of the word `n << 23`, unfolded once. -/
theorem pw_eq (n : Nat) (h : n ≤ 255) : pw (BitVec.ofNat 32 n) =
    if n = 2 ^ 8 - 1 then ⊤ else if n = 0 then ((0 : ℝ) : EReal)
      else (((2 ^ 23 : Nat) * (2 : ℝ) ^ ((n : ℤ) - (2 ^ 7 - 1) - 23) : ℝ) : EReal) := by
  obtain ⟨h1, h2, h3⟩ := field n h
  unfold pw
  generalize IntOp.shli .vector (BitVec.ofNat 32 n) 23#32 = w at h1 h2 h3 ⊢
  simp only [Ideal.ofBits, Ideal.ieee]
  simp only [Nat.reduceAdd, h1, h2, h3]
  simp

/-- The float of field 0 is zero. -/
theorem pw_zero : pw (BitVec.ofNat 32 0) = ((0 : ℝ) : EReal) := by
  rw [pw_eq 0 (by omega)]; norm_num

/-- The float of field 255 is infinity. -/
theorem pw_top : pw (BitVec.ofNat 32 255) = ⊤ := by
  rw [pw_eq 255 (by omega)]; norm_num

/-- The float of a normal field `n` is `2^(n - 127)`. -/
theorem pw_normal (n : Nat) (h0 : n ≠ 0) (h : n ≤ 254) : pw (BitVec.ofNat 32 n) = (((2 : ℝ) ^ ((n : ℤ) - 127) : ℝ) : EReal) := by
  rw [pw_eq n (by omega), if_neg (by omega), if_neg h0]
  congr 1
  have : ((n : ℤ) - (2 ^ 7 - 1) - 23) = ((n : ℤ) - 127) + (-23) := by ring
  rw [this, zpow_add₀ (by norm_num)]
  norm_num
  ring

/-- The powers of two of the fields grow with the field. -/
theorem pw_mono (i j : Nat) (h : i ≤ j) (hj : j ≤ 255) : pw (BitVec.ofNat 32 i) ≤ pw (BitVec.ofNat 32 j) := by
  by_cases hj' : j = 255
  · subst hj'; rw [pw_top]; exact le_top
  by_cases hi : i = 0
  · subst hi
    by_cases hj0 : j = 0
    · subst hj0; exact le_refl _
    · rw [pw_zero, pw_normal j hj0 (by omega), EReal.coe_le_coe_iff]; positivity
  · rw [pw_normal i hi (by omega), pw_normal j (by omega) (by omega), EReal.coe_le_coe_iff]
    exact zpow_le_zpow_right₀ (by norm_num) (by omega)

/-! ## The search finds the field -/

/-- A step at base `p` with stride `s`, when the field sought is `B`. -/
theorem step_eq (v : EReal) (B : Nat) (hv : ∀ n ≤ 255, pw (BitVec.ofNat 32 n) ≤ v ↔ n ≤ B) (p s : Nat) (h : p + s ≤ 255) :
    step v (BitVec.ofNat 32 p) (BitVec.ofNat 32 s) = BitVec.ofNat 32 (if p + s ≤ B then p + s else p) := by
  unfold step
  have e : IntOp.addi (BitVec.ofNat 32 p) (BitVec.ofNat 32 s) = BitVec.ofNat 32 (p + s) := by
    simp [IntOp.addi, BitVec.ofNat_add]
  rw [e]
  have := hv (p + s) h
  by_cases hb : p + s ≤ B
  · rw [if_pos hb]
    have hc : Ideal.cmp .oge v (pw (BitVec.ofNat 32 (p + s))) = 1#1 := by simp [Ideal.cmp, this.2 hb]
    rw [hc, select_one]
  · rw [if_neg hb]
    have hc : Ideal.cmp .oge v (pw (BitVec.ofNat 32 (p + s))) = 0#1 := by
      simp only [Ideal.cmp, this, hb]; rfl
    rw [hc, select_zero]

/-- The eight steps end at the field sought. -/
theorem biased_eq (v : EReal) (B : Nat) (hB : B ≤ 255) (hv : ∀ n ≤ 255, pw (BitVec.ofNat 32 n) ≤ v ↔ n ≤ B) :
    biased v = BitVec.ofNat 32 B := by
  have key : ∀ (p s : Nat) (w : BitVec 32), w = BitVec.ofNat 32 (B / (2 * s) * (2 * s)) → p = B / (2 * s) * (2 * s) →
      0 < s → p + s ≤ 255 → (if p + s ≤ B then p + s else p) = B / s * s →
      step v w (BitVec.ofNat 32 s) = BitVec.ofNat 32 (B / s * s) := by
    intro p s w hw hp _ hle heq
    subst hw
    rw [← hp, step_eq v B hv p s hle, heq]
  unfold biased
  rw [key _ 128 0#32 (by rw [show B / (2 * 128) * (2 * 128) = 0 by omega]) rfl (by omega) (by omega) (by split <;> omega)]
  rw [key _ 64 _ rfl rfl (by omega) (by omega) (by split <;> omega)]
  rw [key _ 32 _ rfl rfl (by omega) (by omega) (by split <;> omega)]
  rw [key _ 16 _ rfl rfl (by omega) (by omega) (by split <;> omega)]
  rw [key _ 8 _ rfl rfl (by omega) (by omega) (by split <;> omega)]
  rw [key _ 4 _ rfl rfl (by omega) (by omega) (by split <;> omega)]
  rw [key _ 2 _ rfl rfl (by omega) (by omega) (by split <;> omega)]
  rw [key _ 1 _ rfl rfl (by omega) (by omega) (by split <;> omega)]
  simp

/-- The field of a real below the smallest normal is zero. -/
theorem biased_small (r : ℝ) (h0 : 0 ≤ r) (h : r < (2 : ℝ) ^ (-126 : ℤ)) : biased (r : EReal) = BitVec.ofNat 32 0 := by
  apply biased_eq _ _ (by omega)
  intro n hn
  constructor
  · intro hle
    by_contra hne
    have h1 := le_trans (pw_mono 1 n (by omega) hn) hle
    rw [pw_normal 1 (by omega) (by omega), EReal.coe_le_coe_iff] at h1
    norm_num at h1 h
    linarith
  · intro hle
    obtain rfl : n = 0 := by omega
    rw [pw_zero, EReal.coe_le_coe_iff]; exact h0

/-- The field of a real in `[2^(B-127), 2^(B-126))` is `B`. -/
theorem biased_normal (r : ℝ) (B : Nat) (hB0 : B ≠ 0) (hB : B ≤ 253) (h0 : (2 : ℝ) ^ ((B : ℤ) - 127) ≤ r)
    (h1 : r < (2 : ℝ) ^ ((B : ℤ) - 126)) : biased (r : EReal) = BitVec.ofNat 32 B := by
  apply biased_eq _ _ (by omega)
  intro n hn
  constructor
  · intro hle
    by_contra hne
    have h2 := le_trans (pw_mono (B + 1) n (by omega) hn) hle
    rw [pw_normal (B + 1) (by omega) (by omega), EReal.coe_le_coe_iff] at h2
    rw [show (((B + 1 : Nat) : ℤ) - 127) = (B : ℤ) - 126 by push_cast; ring] at h2
    linarith
  · intro hle
    refine le_trans (pw_mono n B hle (by omega)) ?_
    rw [pw_normal B hB0 (by omega), EReal.coe_le_coe_iff]; exact h0

/-! ## The two scales agree -/

/-- `kexp` when the field is `B`, neither of the two reserved ones, and the row is not zero. -/
theorem kexp_normal (a : EReal) (B : Nat) (hB0 : B ≠ 0) (hB : B ≤ 253) (ha : a ≠ 0)
    (h : biased (scaled a) = BitVec.ofNat 32 B) : kexp a = BitVec.ofNat 32 B - 126#32 := by
  unfold kexp
  rw [h]
  have e1 : ∀ k : Fin 254, k.val ≠ 0 → IntOp.cmpi .eq (BitVec.ofNat 32 k.val) 0#32 = 0#1
      ∧ IntOp.cmpi .eq (BitVec.ofNat 32 k.val) 255#32 = 0#1 := by decide +kernel
  obtain ⟨e2, e3⟩ := e1 (Fin.mk B (by omega)) hB0
  have e4 : Ideal.cmp .oeq a (Ideal.ofBits .f32 0x00000000#32) = 0#1 := by
    rw [zero_word]; simp only [Ideal.cmp, ha]; rfl
  simp only at e2 e3
  rw [e2, e3, e4]
  rfl

/-- `kexp` of a special row is zero. -/
theorem kexp_special (a : EReal) (h : biased (scaled a) = BitVec.ofNat 32 0) : kexp a = 0#32 := by
  unfold kexp
  rw [h]
  have e : IntOp.cmpi .eq (BitVec.ofNat 32 0) 0#32 = 1#1 := by decide
  rw [e]
  have e1 : ∀ x y : BitVec 1, IntOp.ori (IntOp.ori 1#1 x) y = 1#1 := by decide
  rw [e1]
  rfl

/-- `2^n` for an integer `n`, as the ideal power of two. -/
theorem exp2_int (n : ℤ) : Ideal.exp2 (((n : ℝ)) : EReal) = (((2 : ℝ) ^ n : ℝ) : EReal) := by
  show (((2 : ℝ) ^ (n : ℝ) : ℝ) : EReal) = _
  rw [Real.rpow_intCast]

/-- The reference's exponent of a real in `[2^n, 2^(n+1))` with `n ≥ -126` is `n + 1`. -/
theorem rexp_normal (a : EReal) (r : ℝ) (n : ℤ) (ha : a ≠ 0) (hr : scaled a = (r : EReal)) (hn : -126 ≤ n)
    (h0 : (2 : ℝ) ^ n ≤ r) (h1 : r < (2 : ℝ) ^ (n + 1)) : rexp a = (((n + 1 : ℤ) : ℝ) : EReal) := by
  have hpos : 0 < r := lt_of_lt_of_le (by positivity) h0
  unfold rexp
  have e4 : Ideal.cmp .oeq a (Ideal.ofBits .f32 0x00000000#32) = 0#1 := by
    rw [zero_word]; simp only [Ideal.cmp, ha]; rfl
  have hge : ¬ ((r : EReal) < Ideal.ofBits .f32 0x00800000#32) := by
    rw [tiny_word, EReal.coe_lt_coe_iff, not_lt]
    exact le_trans (zpow_le_zpow_right₀ (by norm_num) hn) h0
  have e5 : Ideal.cmp .olt (scaled a) (Ideal.ofBits .f32 0x00800000#32) = 0#1 := by
    rw [hr]; simp only [Ideal.cmp, hge]; rfl
  rw [e4, select_zero, e5, select_zero, hr, two_word, one_word]
  have l2 : (0 : ℝ) < Real.log 2 := Real.log_pos (by norm_num)
  have e6 : Ideal.log (r : EReal) = ((Real.log r : ℝ) : EReal) := by
    show (if r ≤ 0 then (⊥ : EReal) else _) = _
    rw [if_neg (not_le.2 hpos)]
  have e7 : Ideal.log ((2 : ℝ) : EReal) = ((Real.log 2 : ℝ) : EReal) := by
    show (if (2 : ℝ) ≤ 0 then (⊥ : EReal) else _) = _
    rw [if_neg (by norm_num)]
  rw [e6, e7, Ideal.div_coe (ne_of_gt l2), ← EReal.coe_mul]
  have e8 : Int.floor (Real.log r * (1 / Real.log 2)) = n := by
    rw [mul_one_div, Int.floor_eq_iff]
    constructor
    · rw [le_div_iff₀ l2, ← Real.log_zpow]
      exact Real.log_le_log (by positivity) h0
    · rw [div_lt_iff₀ l2, show ((n : ℝ) + 1) = ((n + 1 : ℤ) : ℝ) by push_cast; ring, ← Real.log_zpow]
      exact Real.log_lt_log hpos h1
  show ((((Int.floor (Real.log r * (1 / Real.log 2)) : ℤ) : ℝ) : EReal)) + _ = _
  rw [e8, ← EReal.coe_add]
  push_cast
  rfl

/-- The reference's exponent of a zero row, or of a `v` below the smallest normal, is zero. -/
theorem rexp_special (a : EReal) (r : ℝ) (hr : scaled a = (r : EReal)) (h : r < (2 : ℝ) ^ (-126 : ℤ)) : rexp a = 0 := by
  unfold rexp
  have e5 : Ideal.cmp .olt (scaled a) (Ideal.ofBits .f32 0x00800000#32) = 1#1 := by
    have hlt : (r : EReal) < (((2 : ℝ) ^ (-126 : ℤ) : ℝ) : EReal) := EReal.coe_lt_coe_iff.2 h
    rw [hr, tiny_word]; simp only [Ideal.cmp, hlt]; rfl
  rw [e5, select_one, zero_word]
  generalize Ideal.cmp .oeq a 0 = c
  by_cases hc : c = 1#1
  · rw [hc, select_one]
  · rw [eq_zero_of_ne_one hc, select_zero]

/-- For a row maximum that is a real in `[0, 2^128)` the kernel's scale and inverse scale are the reference's. -/
theorem agree (s : ℝ) (h0 : 0 ≤ s) (h1 : s < (2 : ℝ) ^ (128 : ℤ)) :
    kscale (s : EReal) = rscale (s : EReal) ∧ kinv (s : EReal) = rinv (s : EReal) := by
  set r : ℝ := s * (9586981 / 4294967296) with hrdef
  have hr : scaled (s : EReal) = (r : EReal) := by
    unfold scaled; rw [scale_word, ← EReal.coe_mul]
  have hr0 : 0 ≤ r := by positivity
  unfold kscale kinv rscale rinv
  by_cases hs : r < (2 : ℝ) ^ (-126 : ℤ)
  · rw [kexp_special _ (by rw [hr]; exact biased_small r hr0 hs), rexp_special _ r hr hs, zero_word]
    have e : Ideal.exp2 0 = pw (BitVec.ofNat 32 127) := by
      rw [pw_normal 127 (by omega) (by omega)]
      have := exp2_int 0
      simpa using this
    rw [sub_zero, e]
    exact ⟨rfl, rfl⟩
  · rw [not_lt] at hs
    have hpos : 0 < r := lt_of_lt_of_le (by positivity) hs
    obtain ⟨n, hn0, hn1⟩ := exists_mem_Ico_zpow hpos (by norm_num : (1 : ℝ) < 2)
    have hlo : -126 ≤ n := by
      by_contra hlt
      have : (2 : ℝ) ^ (n + 1) ≤ 2 ^ (-126 : ℤ) := zpow_le_zpow_right₀ (by norm_num) (by omega)
      linarith
    have hhi : n < 120 := by
      by_contra hge
      have h2 : (2 : ℝ) ^ (120 : ℤ) ≤ 2 ^ n := zpow_le_zpow_right₀ (by norm_num) (by omega)
      have h3 : r < (2 : ℝ) ^ (120 : ℤ) := by
        rw [hrdef]; norm_num at h1 ⊢; nlinarith
      linarith
    have ha : (s : EReal) ≠ 0 := by
      intro h; rw [EReal.coe_eq_zero] at h; rw [h] at hrdef; simp at hrdef; linarith
    obtain ⟨B, hBn⟩ : ∃ B : Nat, (B : ℤ) = n + 127 := ⟨(n + 127).toNat, by omega⟩
    have hb : biased (scaled (s : EReal)) = BitVec.ofNat 32 B := by
      rw [hr]
      refine biased_normal r B (by omega) (by omega) ?_ ?_
      · rw [show (B : ℤ) - 127 = n by omega]; exact hn0
      · rw [show (B : ℤ) - 126 = n + 1 by omega]; exact hn1
    rw [kexp_normal _ B (by omega) (by omega) ha hb, rexp_normal _ r n ha hr hlo hn0 hn1, zero_word]
    have w1 : ∀ k : Fin 254, IntOp.addi (BitVec.ofNat 32 k.val - 126#32) 127#32 = BitVec.ofNat 32 (k.val + 1)
        ∧ IntOp.addi (IntOp.subi 0#32 (BitVec.ofNat 32 k.val - 126#32)) 127#32 = BitVec.ofNat 32 (253 - k.val) := by
      decide +kernel
    obtain ⟨w2, w3⟩ := w1 (Fin.mk B (by omega))
    simp only at w2 w3
    rw [w2, w3, pw_normal _ (by omega) (by omega), pw_normal _ (by omega) (by omega), exp2_int]
    constructor
    · rw [show (((B + 1 : Nat) : ℤ) - 127) = n + 1 by omega]
    · rw [show (((253 - B : Nat) : ℤ) - 127) = -(n + 1) by omega, ← exp2_int]
      rw [zero_sub, ← EReal.coe_neg]
      push_cast
      rfl

end Cert.Proof.Exponent

end
-- ==== Proof.Row.lean ====
/- What one row of the quantiser and one entry of the product are, over the extended reals: the row's largest magnitude, a
   clamped code, and the product of a row of codes with a column of weights, scaled, with the residual added. -/
module

public import proofs.«01_k».proof.Proof.Exponent

@[expose] public section

noncomputable section

namespace Cert.Proof.Row

open Idealize.ShloMosaic Idealize.ShloMosaic.ValueIdx

/-- The largest magnitude of a row (a maximum folded from minus infinity). -/
def rowMax (f : Fin 1024 → EReal) : EReal :=
  (Finset.univ : Finset (Fin 1024)).fold max (Ideal.ofBits .f32 0xFF800000#32) fun k => max (f k) (-(f k))

/-- The code of an element `x` of a row whose inverse scale is `inv`: the product, clamped to `[-448, 448]`. -/
def code (x inv : EReal) : EReal :=
  min (Ideal.ofBits .f32 0x43E00000#32) (max (Ideal.ofBits .f32 0xC3E00000#32) (x * inv))

/-- One entry of the result: the codes' product with a weight column, times the row's scale, times the column's scale, plus the
    residual. -/
def entry (q w : Fin 1024 → EReal) (scale ws res : EReal) : EReal := (∑ k, q k * w k) * scale * ws + res

/-- The largest finite bf16 value, a real below `2^128`. -/
theorem bound_word : Ideal.ofBits .f32 0x7F7F0000#32 = (((2 : ℝ) ^ (128 : ℤ) - (2 : ℝ) ^ (120 : ℤ) : ℝ) : EReal) := by
  simp [Ideal.ofBits, Ideal.ieee, -EReal.coe_mul, -EReal.coe_sub]; norm_num

/-- The largest magnitude of a row of finite bf16 values is a real in `[0, 2^128)`. -/
theorem rowMax_real (f : Fin 1024 → EReal) (h : ∀ k, max (f k) (-(f k)) ≤ Ideal.ofBits .f32 0x7F7F0000#32) :
    ∃ s : ℝ, rowMax f = (s : EReal) ∧ 0 ≤ s ∧ s < (2 : ℝ) ^ (128 : ℤ) := by
  have hle : rowMax f ≤ Ideal.ofBits .f32 0x7F7F0000#32 := by
    unfold rowMax
    rw [Finset.fold_max_le]
    refine ⟨?_, fun k _ => h k⟩
    have : Ideal.ofBits .f32 0xFF800000#32 = ⊥ := by simp [Ideal.ofBits, Ideal.ieee]
    rw [this]; exact bot_le
  have hge : 0 ≤ rowMax f := by
    unfold rowMax
    rw [Finset.le_fold_max]
    refine Or.inr ⟨0, Finset.mem_univ _, ?_⟩
    rcases le_total 0 (f 0) with h0 | h0
    · exact le_max_of_le_left h0
    · refine le_max_of_le_right ?_
      rw [← neg_zero]; exact EReal.neg_le_neg_iff.2 h0
  rw [bound_word] at hle
  have hb : rowMax f ≠ ⊥ := fun e => by rw [e] at hge; exact absurd hge (by simp)
  have ht : rowMax f ≠ ⊤ := fun e => by rw [e] at hle; exact absurd hle (not_le.2 (EReal.coe_lt_top _))
  refine ⟨(rowMax f).toReal, (EReal.coe_toReal ht hb).symm, ?_, ?_⟩
  · exact EReal.toReal_nonneg hge
  · rw [← EReal.coe_toReal ht hb, EReal.coe_le_coe_iff] at hle
    refine lt_of_le_of_lt hle ?_
    norm_num

/-- A row of finite bf16 values has the same scale and inverse scale in the kernel and in the reference. -/
theorem scales_agree (f : Fin 1024 → EReal) (h : ∀ k, max (f k) (-(f k)) ≤ Ideal.ofBits .f32 0x7F7F0000#32) :
    Exponent.kscale (rowMax f) = Exponent.rscale (rowMax f) ∧ Exponent.kinv (rowMax f) = Exponent.rinv (rowMax f) := by
  obtain ⟨s, hs, h0, h1⟩ := rowMax_real f h
  rw [hs]
  exact Exponent.agree s h0 h1

end Cert.Proof.Row

end
-- ==== Proof.KernelValue.lean ====
/- What the kernel body's stored values are at an index of a block, over the extended reals: the scale and the codes of a row
   of the activation block, and one chunk of the product. -/
module

public import proofs.«01_k».proof.Proof.Gen.KernelIdeal.Skeleton
public import proofs.«01_k».proof.Proof.Row
public import Idealize.ShloMosaic.Lib.Pipeline.Value
public import Idealize.ShloMosaic.PureOps.Ideal.Laws

@[expose] public section

noncomputable section

namespace Cert.Proof.KernelBlock

open Cert.KernelIdeal Cert.KernelIdeal.Gen Idealize.ShloMosaic Idealize.ShloMosaic.ValueIdx
open Cert.Proof.Row Cert.Proof.Exponent

/-! ## The scales -/

/-- The scale stored for an activation block, in the kernel's text. -/
def scaleV {F : FTy → Type} [FloatOps F] (v0 : Vec F S1x256x1024 .bf16) : FVec F S256x1 .f32 :=
  k0_pay10 (k0_pay4 v0) (k0_pay5 v0) (k0_pay6 v0) (k0_pay7 v0) (k0_pay8 v0)

/-- The codes stored for an activation block, in the kernel's text. -/
def codesV {F : FTy → Type} [FloatOps F] (v0 : Vec F S1x256x1024 .bf16) : FVec F S1x256x1024 .fp8e4m3 :=
  k0_pay12 (k0_pay3 v0) (k0_pay11 (k0_pay4 v0) (k0_pay5 v0) (k0_pay6 v0) (k0_pay7 v0) (k0_pay8 v0)) 23#32

/-- One step of the search on a column of values. -/
def stepV (v : FVec Ideal S256x1 .f32) (b : IVec S256x1 32) (s : BitVec 32) : IVec S256x1 32 :=
  select (cmpf .oge v (bitcastToFloat .f32 (shli (addi b (broadcast S256x1 s)) (broadcast S256x1 23#32)))) (addi b (broadcast S256x1 s)) b

/-- A step at an index. -/
theorem step_at (v : FVec Ideal S256x1 .f32) (b : IVec S256x1 32) (s : BitVec 32) (i : S256x1.Idx) :
    stepV v b s i = step (v i) (b i) s := rfl

/-- The eight steps. -/
def biasedV (v : FVec Ideal S256x1 .f32) : IVec S256x1 32 :=
  stepV v (stepV v (stepV v (stepV v (stepV v (stepV v (stepV v (stepV v (broadcast S256x1 0#32) 128#32) 64#32) 32#32) 16#32) 8#32) 4#32) 2#32) 1#32

/-- The eight steps at an index. -/
theorem biased_at (v : FVec Ideal S256x1 .f32) (i : S256x1.Idx) : biasedV v i = biased (v i) := by
  unfold biasedV biased
  simp only [step_at]
  rfl

/-- The exponent words from the row maxima `a`, their multiples `v` and the fields `b`. -/
def kexpV (a : FVec Ideal S256x1 .f32) (b : IVec S256x1 32) : IVec S256x1 32 :=
  select (ori (ori (cmpi .eq b (broadcast S256x1 0#32)) (cmpi .eq b (broadcast S256x1 255#32)))
      (cmpf .oeq a (broadcast S256x1 (Scalar.ofBits .f32 0x00000000#32 : Ideal .f32))))
    (broadcast S256x1 0#32) (subi b (broadcast S256x1 126#32))

/-- The kernel's exponent words. -/
theorem pay9_eq (v0 : Vec Ideal S1x256x1024 .bf16) :
    k0_pay9 (k0_pay4 v0) (k0_pay5 v0) (k0_pay6 v0) (k0_pay7 v0) (k0_pay8 v0) = kexpV (k0_pay4 v0) (biasedV (k0_pay5 v0)) := rfl

/-- The multiple of the row maximum at an index. -/
theorem pay5_at (v0 : Vec Ideal S1x256x1024 .bf16) (i : S256x1.Idx) : k0_pay5 v0 i = scaled (k0_pay4 v0 i) := rfl

/-- The exponent words at an index. -/
theorem kexpV_at (a : FVec Ideal S256x1 .f32) (b : IVec S256x1 32) (i : S256x1.Idx) (hb : b i = biased (scaled (a i))) :
    kexpV a b i = kexp (a i) := by
  unfold kexp
  rw [← hb]
  rfl

/-- The kernel's exponent word at an index. -/
theorem pay9_at (v0 : Vec Ideal S1x256x1024 .bf16) (i : S256x1.Idx) :
    k0_pay9 (k0_pay4 v0) (k0_pay5 v0) (k0_pay6 v0) (k0_pay7 v0) (k0_pay8 v0) i = kexp (k0_pay4 v0 i) := by
  rw [pay9_eq]
  exact kexpV_at _ _ i (by rw [biased_at, pay5_at])

/-- Row `r` of an activation block. -/
abbrev brow (v0 : Vec Ideal S1x256x1024 .bf16) (r : Fin 256) : Fin 1024 → EReal := fun k => v0 (ix3 0 r k)

/-- The block as a matrix, at an index. -/
theorem pay3_at (v0 : Vec Ideal S1x256x1024 .bf16) (r : Fin 256) (k : Fin 1024) : k0_pay3 v0 (ix2 r k) = v0 (ix3 0 r k) := by
  refine (shapeCast_apply v0 shapeCasts_S1x256x1024_S256x1024 (ix2 r k) (ix3 0 r k) ?_)
  rw [Shape.rowMajor_val_two, Shape.rowMajor_val_three]
  show (0 * 256 + r.val) * 1024 + k.val = r.val * 1024 + k.val
  omega

/-- The row maximum the kernel takes is `rowMax` of the row. -/
theorem pay4_at (v0 : Vec Ideal S1x256x1024 .bf16) (r : Fin 256) (u : Fin 1) : k0_pay4 v0 (ix2 r u) = rowMax (brow v0 r) := by
  unfold k0_pay4
  refine (shapeCast_apply _ _ (ix2 r u) (ix1 r) ?_).trans ?_
  · rw [Shape.rowMajor_val_one, Shape.rowMajor_val_two]
    show r.val = r.val * 1 + u.val
    omega
  · refine (Ideal.multiReduction_maximumf_single _ _ _ _ _ _).trans ?_
    unfold rowMax
    refine Finset.fold_congr fun k _ => ?_
    have e : Shape.Reduces.lift reduces_S256x1024_S256 (ix1 r) k = ix2 r k := by
      funext a; fin_cases a <;> rfl
    show max (k0_pay3 v0 (Shape.Reduces.lift reduces_S256x1024_S256 (ix1 r) k)) (-(k0_pay3 v0 (Shape.Reduces.lift reduces_S256x1024_S256 (ix1 r) k))) = _
    rw [e]
    exact congrArg (fun z : EReal => max z (-z)) (pay3_at v0 r k)

/-- The scale words from the exponent words, as floats. -/
def pwV (e : IVec S256x1 32) : FVec Ideal S256x1 .f32 := bitcastToFloat .f32 (shli e (broadcast S256x1 23#32))

/-- A scale word at an index. -/
theorem pwV_at (e : IVec S256x1 32) (i : S256x1.Idx) : pwV e i = pw (e i) := rfl

/-- The kernel's scales from its exponent words. -/
theorem scaleV_eq (v0 : Vec Ideal S1x256x1024 .bf16) :
    scaleV v0 = pwV (addi (k0_pay9 (k0_pay4 v0) (k0_pay5 v0) (k0_pay6 v0) (k0_pay7 v0) (k0_pay8 v0)) (broadcast S256x1 127#32)) := rfl

/-- The kernel's scale of row `r` of the block. -/
theorem scaleV_at (v0 : Vec Ideal S1x256x1024 .bf16) (r : Fin 256) (u : Fin 1) : scaleV v0 (ix2 r u) = kscale (rowMax (brow v0 r)) := by
  rw [scaleV_eq, pwV_at]
  show pw (IntOp.addi (k0_pay9 (k0_pay4 v0) (k0_pay5 v0) (k0_pay6 v0) (k0_pay7 v0) (k0_pay8 v0) (ix2 r u)) 127#32) = _
  rw [pay9_at, pay4_at]
  rfl

/-- The stored scale at an index. -/
theorem pay13_at {F : FTy → Type} [FloatOps F] (v : FVec F S256x1 .f32) (b : Fin 1) (r : Fin 256) (u : Fin 1) :
    k0_pay13 v (ix3 b r u) = v (ix2 r u) := by
  refine (shapeCast_apply v shapeCasts_S256x1_S1x256x1 (ix3 b r u) (ix2 r u) ?_)
  rw [Shape.rowMajor_val_two, Shape.rowMajor_val_three]
  show r.val * 1 + u.val = (b.val * 256 + r.val) * 1 + u.val
  omega

/-! ## The codes -/

/-- The inverse scales, as the kernel's text computes them. -/
theorem inv_at (v0 : Vec Ideal S1x256x1024 .bf16) (r : Fin 256) (u : Fin 1) :
    pwV (k0_pay11 (k0_pay4 v0) (k0_pay5 v0) (k0_pay6 v0) (k0_pay7 v0) (k0_pay8 v0)) (ix2 r u) = kinv (rowMax (brow v0 r)) := by
  rw [pwV_at]
  show pw (IntOp.addi (IntOp.subi 0#32 (k0_pay9 (k0_pay4 v0) (k0_pay5 v0) (k0_pay6 v0) (k0_pay7 v0) (k0_pay8 v0) (ix2 r u))) 127#32) = _
  rw [pay9_at, pay4_at]
  rfl

/-- The codes of `x` at the inverse scales `inv`, as the kernel's text computes them. -/
def codeV (x : FVec Ideal S256x1024 .f32) (inv : FVec Ideal S256x1 .f32) : FVec Ideal S256x1024 .fp8e4m3 :=
  truncf .fp8e4m3 (minimumf (broadcast S256x1024 (Scalar.ofBits .f32 0x43E00000#32 : Ideal .f32))
    (maximumf (broadcast S256x1024 (Scalar.ofBits .f32 0xC3E00000#32 : Ideal .f32))
      (mulf x (broadcastTo S256x1024 inv broadcasts_S256x1_S256x1024)))) bitsLt_fp8e4m3_f32

/-- The codes at an index. -/
theorem codeV_at (x : FVec Ideal S256x1024 .f32) (inv : FVec Ideal S256x1 .f32) (r : Fin 256) (k : Fin 1024) :
    codeV x inv (ix2 r k) = code (x (ix2 r k)) (inv (ix2 r 0)) := by
  have h : broadcastTo S256x1024 inv broadcasts_S256x1_S256x1024 (ix2 r k) = inv (ix2 r 0) :=
    broadcastTo_apply _ _ _ (ix2 r 0) (fun a => by fin_cases a <;> rfl)
  rw [← h]
  rfl

/-- The stored codes are `codeV` of the block, with a unit axis added. -/
theorem codesV_eq (v0 : Vec Ideal S1x256x1024 .bf16) :
    codesV v0 = shapeCast S1x256x1024 (codeV (k0_pay3 v0) (pwV (k0_pay11 (k0_pay4 v0) (k0_pay5 v0) (k0_pay6 v0) (k0_pay7 v0) (k0_pay8 v0))))
      shapeCasts_S256x1024_S1x256x1024 := rfl

/-- The kernel's code at row `r` of the block, element `k`. -/
theorem codesV_at (v0 : Vec Ideal S1x256x1024 .bf16) (b : Fin 1) (r : Fin 256) (k : Fin 1024) :
    codesV v0 (ix3 b r k) = code (v0 (ix3 0 r k)) (kinv (rowMax (brow v0 r))) := by
  rw [codesV_eq]
  refine (shapeCast_apply _ shapeCasts_S256x1024_S1x256x1024 (ix3 b r k) (ix2 r k) ?_).trans ?_
  · rw [Shape.rowMajor_val_two, Shape.rowMajor_val_three]
    show r.val * 1024 + k.val = (b.val * 256 + r.val) * 1024 + k.val
    omega
  · rw [codeV_at, pay3_at, inv_at]

/-! ## A chunk of the product -/

/-- A product of a block of codes with a chunk of weights at an index. -/
theorem dot_at (q : FVec Ideal S256x1024 .fp8e4m3) (w : FVec Ideal S1024x512 .fp8e4m3) (r : Fin 256) (n : Fin 512) :
    matmul dot_S256x1024_S1024x512_S256x512_1_0_0_1_n_n none q w (constant S256x512 .f32 0x00000000#32) (ix2 r n)
      = ∑ k : Fin 1024, q (ix2 r k) * w (ix2 k n) := by
  refine (Ideal.matmul_constant_zero_apply dot_S256x1024_S1024x512_S256x512_1_0_0_1_n_n none q w (ix2 r n)).trans ?_
  refine Fintype.sum_equiv (contrEquiv1 dot_S256x1024_S1024x512_S256x512_1_0_0_1_n_n 1024 rfl rfl) _ _ fun c => ?_
  have e1 : (dot_S256x1024_S1024x512_S256x512_1_0_0_1_n_n).lhsIdx (ix2 r n) c
      = ix2 r (contrEquiv1 dot_S256x1024_S1024x512_S256x512_1_0_0_1_n_n 1024 rfl rfl c) := by
    funext a; fin_cases a <;> simp [DotDims.lhsIdx, dot_S256x1024_S1024x512_S256x512_1_0_0_1_n_n] <;> rfl
  have e2 : (dot_S256x1024_S1024x512_S256x512_1_0_0_1_n_n).rhsIdx (ix2 r n) c
      = ix2 (contrEquiv1 dot_S256x1024_S1024x512_S256x512_1_0_0_1_n_n 1024 rfl rfl c) n := by
    funext a; fin_cases a <;> simp [DotDims.rhsIdx, dot_S256x1024_S1024x512_S256x512_1_0_0_1_n_n] <;> rfl
  rw [e1, e2]

/-- A chunk's product scaled by row and by column, the residual added, as the kernel's text computes it. -/
def sumV (d : FVec Ideal S256x512 .f32) (sc : FVec Ideal S256x1 .f32) (ws : Vec Ideal S1x512 .f32) (res : Vec Ideal S1x256x512 .bf16) :
    FVec Ideal S256x512 .f32 :=
  addf (mulf (mulf d (broadcastTo S256x512 sc broadcasts_S256x1_S256x512))
      (broadcastTo S256x512 (shapeCast S1x512 ws shapeCasts_S1x512_S1x512) broadcasts_S1x512_S256x512))
    (extf .f32 (shapeCast S256x512 res shapeCasts_S1x256x512_S256x512) bitsLt_bf16_f32)

/-- The same at an index. -/
theorem sumV_at (d : FVec Ideal S256x512 .f32) (sc : FVec Ideal S256x1 .f32) (ws : Vec Ideal S1x512 .f32) (res : Vec Ideal S1x256x512 .bf16)
    (r : Fin 256) (n : Fin 512) :
    sumV d sc ws res (ix2 r n) = d (ix2 r n) * sc (ix2 r 0) * ws (ix2 0 n) + res (ix3 0 r n) := by
  have h1 : broadcastTo S256x512 sc broadcasts_S256x1_S256x512 (ix2 r n) = sc (ix2 r 0) :=
    broadcastTo_apply _ _ _ (ix2 r 0) (fun a => by fin_cases a <;> rfl)
  have h2 : broadcastTo S256x512 (shapeCast S1x512 ws shapeCasts_S1x512_S1x512) broadcasts_S1x512_S256x512 (ix2 r n) = ws (ix2 0 n) := by
    refine (broadcastTo_apply _ _ _ (ix2 0 n) (fun a => by fin_cases a <;> rfl)).trans ?_
    exact shapeCast_apply _ _ _ _ rfl
  have h3 : shapeCast S256x512 res shapeCasts_S1x256x512_S256x512 (ix2 r n) = res (ix3 0 r n) := by
    refine shapeCast_apply _ _ _ _ ?_
    rw [Shape.rowMajor_val_two, Shape.rowMajor_val_three]
    show (0 * 256 + r.val) * 512 + n.val = r.val * 512 + n.val
    omega
  rw [← h1, ← h2, ← h3]
  rfl

/-- A stored chunk from its sum. -/
theorem pay14_eq (sc : FVec Ideal S256x1 .f32) (q : Vec Ideal S1x256x1024 .fp8e4m3) (w : Vec Ideal S1024x512 .fp8e4m3)
    (ws : Vec Ideal S1x512 .f32) (res : Vec Ideal S1x256x512 .bf16) :
    k0_pay14 sc q w ws res = shapeCast S1x32x8x512 (truncf .bf16 (shapeCast S32x8x512
      (sumV (matmul (φ₁ := .fp8e4m3) (φ₂ := .fp8e4m3) dot_S256x1024_S1024x512_S256x512_1_0_0_1_n_n none (shapeCast S256x1024 q shapeCasts_S1x256x1024_S256x1024) w
        (constant S256x512 .f32 0x00000000#32)) sc ws res) shapeCasts_S256x512_S32x8x512) bitsLt_bf16_f32) shapeCasts_S32x8x512_S1x32x8x512 := rfl

/-- A stored chunk at an index: the entry of the product at row `8 p + r` of the block. -/
theorem pay14_at (sc : FVec Ideal S256x1 .f32) (q : Vec Ideal S1x256x1024 .fp8e4m3) (w : Vec Ideal S1024x512 .fp8e4m3)
    (ws : Vec Ideal S1x512 .f32) (res : Vec Ideal S1x256x512 .bf16) (b : Fin 1) (p : Fin 32) (r : Fin 8) (n : Fin 512) (s : Fin 256)
    (hs : s.val = p.val * 8 + r.val) :
    k0_pay14 sc q w ws res (ix4 b p r n)
      = entry (fun k => q (ix3 0 s k)) (fun k => w (ix2 k n)) (sc (ix2 s 0)) (ws (ix2 0 n)) (res (ix3 0 s n)) := by
  rw [pay14_eq]
  refine (shapeCast_apply _ shapeCasts_S32x8x512_S1x32x8x512 (ix4 b p r n) (ix3 p r n) ?_).trans ?_
  · rw [Shape.rowMajor_val_three, Shape.rowMajor_val_four]
    show (p.val * 8 + r.val) * 512 + n.val = ((b.val * 32 + p.val) * 8 + r.val) * 512 + n.val
    omega
  refine (shapeCast_apply (sumV _ sc ws res) shapeCasts_S256x512_S32x8x512 (ix3 p r n) (ix2 s n) ?_).trans ?_
  · rw [Shape.rowMajor_val_two, Shape.rowMajor_val_three]
    show s.val * 512 + n.val = (p.val * 8 + r.val) * 512 + n.val
    omega
  rw [sumV_at, dot_at]
  unfold entry
  have h : ∀ k : Fin 1024, shapeCast S256x1024 q shapeCasts_S1x256x1024_S256x1024 (ix2 s k) = q (ix3 0 s k) := fun k => by
    refine shapeCast_apply _ _ _ _ ?_
    rw [Shape.rowMajor_val_two, Shape.rowMajor_val_three]
    show (0 * 256 + s.val) * 1024 + k.val = s.val * 1024 + k.val
    omega
  simp only [h]

end Cert.Proof.KernelBlock

end
-- ==== Proof.KernelBlock.lean ====
/- What one grid point's body leaves in its three output blocks. -/
module

public import proofs.«01_k».proof.Proof.Gen.KernelIdeal.Frame
public import proofs.«01_k».proof.Proof.KernelValue
public import Idealize.ShloMosaic.Lib.Pipeline.ValueKit.Tiles

@[expose] public section

set_option maxRecDepth 16384

noncomputable section

namespace Cert.Proof.KernelBlock

open Cert.KernelIdeal Cert.KernelIdeal.Gen Idealize.ShloMosaic Idealize.ShloMosaic.TcCoe Idealize.SL.Sem
open Idealize.ShloMosaic.Pipeline (Dat)
open Idealize.ShloMosaic.ValueIdx Cert.Proof.Row Cert.Proof.Exponent

variable {F : FTy → Type} [FloatOps F]

variable (c : Dev nD) (i : grid0.Coords) (arg2 : Memref sig .tc .vmem S1x256x1024 .bf16) (harg2 : arg2.IsWhole)
  (arg3 : Memref sig .tc .vmem S1024x8192 .fp8e4m3) (harg3 : arg3.IsWhole) (arg4 : Memref sig .tc .vmem S1x8192 .f32) (harg4 : arg4.IsWhole)
  (arg5 : Memref sig .tc .vmem S1x256x8192 .bf16) (harg5 : arg5.IsWhole) (arg6 : Memref sig .tc .vmem S1x32x8x8192 .bf16) (harg6 : arg6.IsWhole)
  (arg7 : Memref sig .tc .vmem S1x256x1024 .fp8e4m3) (harg7 : arg7.IsWhole) (arg8 : Memref sig .tc .vmem S1x256x1 .f32) (harg8 : arg8.IsWhole)
  (x0 : Vec F S1x256x1024 .bf16) (x1 : Vec F S1024x8192 .fp8e4m3) (x2 : Vec F S1x8192 .f32) (x3 : Vec F S1x256x8192 .bf16)

theorem hz3 : (![0, 0, 0] : Fin 3 → Nat) = fun _ => 0 := funext fun a => by fin_cases a <;> rfl

/-- The third output's block: the scales of the activation block. -/
theorem out6_eq : out0_A_6 c i arg2 harg2 arg3 harg3 arg4 harg4 arg5 harg5 arg6 harg6 arg7 harg7 arg8 harg8 x0 x1 x2 x3
    = k0_pay13 (scaleV x0) := by
  unfold out0_A_6
  rw [View.read_writes_eq_canon _ _ _ (cover0_A_6 c i arg2 harg2 arg3 harg3 arg4 harg4 arg5 harg5 arg6 harg6 arg7 harg7 arg8 harg8 x0 x1 x2 x3)]
  unfold kernelRun0_A
  dsimp only
  sl_unfold_words
  simp only [View.readAt_eq_ld, harg2.read_unread]
  rw [View.canon_unit_zero hz3, View.ld_unit_zero (S := S1x256x1024) hz3 _ x0]
  rfl

/-- The second output's block: the codes of the activation block. -/
theorem out5_eq : out0_A_5 c i arg2 harg2 arg3 harg3 arg4 harg4 arg5 harg5 arg6 harg6 arg7 harg7 arg8 harg8 x0 x1 x2 x3
    = codesV x0 := by
  unfold out0_A_5
  rw [View.read_writes_eq_canon _ _ _ (cover0_A_5 c i arg2 harg2 arg3 harg3 arg4 harg4 arg5 harg5 arg6 harg6 arg7 harg7 arg8 harg8 x0 x1 x2 x3)]
  unfold kernelRun0_A
  dsimp only
  sl_unfold_words
  simp only [View.readAt_eq_ld, harg2.read_unread]
  rw [View.canon_unit_zero hz3, View.ld_unit_zero (S := S1x256x1024) hz3 _ x0]
  rfl

/-- What the first output's block holds at an index: the entry of the product at row `8 p + r` of the activation block. -/
def blockY (x0 : Vec Ideal S1x256x1024 .bf16) (x1 : Vec Ideal S1024x8192 .fp8e4m3) (x2 : Vec Ideal S1x8192 .f32) (x3 : Vec Ideal S1x256x8192 .bf16)
    (s : Fin 256) (n : Fin 8192) : EReal :=
  entry (fun k => code (x0 (ix3 0 s k)) (kinv (rowMax (brow x0 s)))) (fun k => x1 (ix2 k n)) (kscale (rowMax (brow x0 s)))
    (x2 (ix2 0 n)) (x3 (ix3 0 s n))

/-- The row of the activation block that a result row `(p, r)` comes from. -/
def rowOf (p : Fin 32) (r : Fin 8) : Fin 256 := ⟨p.val * 8 + r.val, by omega⟩

/-- A stored chunk, at an index, is the block's entry at the index it is stored to. -/
theorem chunk_ix (x0 : Vec Ideal S1x256x1024 .bf16) (x1 : Vec Ideal S1024x8192 .fp8e4m3) (x2 : Vec Ideal S1x8192 .f32) (x3 : Vec Ideal S1x256x8192 .bf16)
    (n0 : Nat) (hy : ∀ a, (![0, 0, 0, n0] : Fin 4 → Nat) a + (![1, 32, 8, 512] : Fin 4 → Nat) a ≤ S1x32x8x8192.size a)
    (hw : ∀ a, (![0, n0] : Fin 2 → Nat) a + (![1024, 512] : Fin 2 → Nat) a ≤ S1024x8192.size a)
    (hs : ∀ a, (![0, n0] : Fin 2 → Nat) a + (![1, 512] : Fin 2 → Nat) a ≤ S1x8192.size a)
    (hr : ∀ a, (![0, 0, n0] : Fin 3 → Nat) a + (![1, 256, 512] : Fin 3 → Nat) a ≤ S1x256x8192.size a)
    (b : Fin 1) (p : Fin 32) (r : Fin 8) (n : Fin 512) :
    k0_pay14 (scaleV x0) (codesV x0) (View.ld x1 (Rect.unit (s := S1024x8192) ![0, n0] ![1024, 512] hw))
        (View.ld x2 (Rect.unit (s := S1x8192) ![0, n0] ![1, 512] hs)) (View.ld x3 (Rect.unit (s := S1x256x8192) ![0, 0, n0] ![1, 256, 512] hr)) (ix4 b p r n)
      = (fun y : S1x32x8x8192.Idx => blockY x0 x1 x2 x3 (rowOf (y 1) (y 2)) (y 3))
          ((Rect.unit (s := S1x32x8x8192) ![0, 0, 0, n0] ![1, 32, 8, 512] hy).emb (ix4 b p r n)) := by
  have hn : n0 + 512 ≤ 8192 := hy 3
  have ey : (Rect.unit (s := S1x32x8x8192) ![0, 0, 0, n0] ![1, 32, 8, 512] hy).emb (ix4 b p r n)
      = ix4 b p r (Fin.mk (n0 + n.val) (by omega)) := by
    funext a
    apply Fin.ext
    refine (Rect.idx_unit_val ![0, 0, 0, n0] ![1, 32, 8, 512] hy (ix4 b p r n) a).trans ?_
    fin_cases a <;> simp
  rw [ey, pay14_at _ _ _ _ _ b p r n (rowOf p r) rfl, scaleV_at]
  have e1 : ∀ k : Fin 1024, View.ld x1 (Rect.unit (s := S1024x8192) ![0, n0] ![1024, 512] hw) (ix2 k n) = x1 (ix2 k (Fin.mk (n0 + n.val) (by omega))) := fun k =>
    View.ld_unit_apply_of x1 _ _ hw (ix2 k n) _ fun a => by fin_cases a <;> simp
  have e2 : View.ld x2 (Rect.unit (s := S1x8192) ![0, n0] ![1, 512] hs) (ix2 0 n) = x2 (ix2 0 (Fin.mk (n0 + n.val) (by omega))) :=
    View.ld_unit_apply_of x2 _ _ hs (ix2 0 n) _ fun a => by fin_cases a <;> simp
  have e3 : View.ld x3 (Rect.unit (s := S1x256x8192) ![0, 0, n0] ![1, 256, 512] hr) (ix3 0 (rowOf p r) n)
      = x3 (ix3 0 (rowOf p r) (Fin.mk (n0 + n.val) (by omega))) :=
    View.ld_unit_apply_of x3 _ _ hr (ix3 0 (rowOf p r) n) _ fun a => by fin_cases a <;> simp
  rw [e2, e3]
  simp only [e1, codesV_at]
  rfl

/-- The same at any index of the chunk. -/
theorem chunk_at (x0 : Vec Ideal S1x256x1024 .bf16) (x1 : Vec Ideal S1024x8192 .fp8e4m3) (x2 : Vec Ideal S1x8192 .f32) (x3 : Vec Ideal S1x256x8192 .bf16)
    (n0 : Nat) (hy : ∀ a, (![0, 0, 0, n0] : Fin 4 → Nat) a + (![1, 32, 8, 512] : Fin 4 → Nat) a ≤ S1x32x8x8192.size a)
    (hw : ∀ a, (![0, n0] : Fin 2 → Nat) a + (![1024, 512] : Fin 2 → Nat) a ≤ S1024x8192.size a)
    (hs : ∀ a, (![0, n0] : Fin 2 → Nat) a + (![1, 512] : Fin 2 → Nat) a ≤ S1x8192.size a)
    (hr : ∀ a, (![0, 0, n0] : Fin 3 → Nat) a + (![1, 256, 512] : Fin 3 → Nat) a ≤ S1x256x8192.size a)
    (x : S1x32x8x512.Idx) :
    k0_pay14 (scaleV x0) (codesV x0) (View.ld x1 (Rect.unit (s := S1024x8192) ![0, n0] ![1024, 512] hw))
        (View.ld x2 (Rect.unit (s := S1x8192) ![0, n0] ![1, 512] hs)) (View.ld x3 (Rect.unit (s := S1x256x8192) ![0, 0, n0] ![1, 256, 512] hr)) x
      = (fun y : S1x32x8x8192.Idx => blockY x0 x1 x2 x3 (rowOf (y 1) (y 2)) (y 3))
          ((Rect.unit (s := S1x32x8x8192) ![0, 0, 0, n0] ![1, 32, 8, 512] hy).emb x) := by
  rw [eq_ix4 x]
  exact chunk_ix x0 x1 x2 x3 n0 hy hw hs hr (x 0) (x 1) (x 2) (x 3)

/-- The chunk stored at column `n0`: `k0_pay14` of the scales, the codes and the three chunks loaded there. -/
def piece (x0 : Vec F S1x256x1024 .bf16) (x1 : Vec F S1024x8192 .fp8e4m3) (x2 : Vec F S1x8192 .f32) (x3 : Vec F S1x256x8192 .bf16)
    (n0 : Nat) (hy : ∀ a, (![0, 0, 0, n0] : Fin 4 → Nat) a + (![1, 32, 8, 512] : Fin 4 → Nat) a ≤ S1x32x8x8192.size a)
    (hw : ∀ a, (![0, n0] : Fin 2 → Nat) a + (![1024, 512] : Fin 2 → Nat) a ≤ S1024x8192.size a)
    (hs : ∀ a, (![0, n0] : Fin 2 → Nat) a + (![1, 512] : Fin 2 → Nat) a ≤ S1x8192.size a)
    (hr : ∀ a, (![0, 0, n0] : Fin 3 → Nat) a + (![1, 256, 512] : Fin 3 → Nat) a ≤ S1x256x8192.size a) : View.Piece (Elt F) S1x32x8x8192 .bf16 :=
  ⟨Rect.unit (s := S1x32x8x8192) ![0, 0, 0, n0] ![1, 32, 8, 512] hy,
    k0_pay14 (scaleV x0) (codesV x0) (View.ld x1 (Rect.unit (s := S1024x8192) ![0, n0] ![1024, 512] hw))
        (View.ld x2 (Rect.unit (s := S1x8192) ![0, n0] ![1, 512] hs)) (View.ld x3 (Rect.unit (s := S1x256x8192) ![0, 0, n0] ![1, 256, 512] hr))⟩

/-- The sixteen chunks stored to the first output's block, the last stored first. -/
def pieces (x0 : Vec F S1x256x1024 .bf16) (x1 : Vec F S1024x8192 .fp8e4m3) (x2 : Vec F S1x8192 .f32) (x3 : Vec F S1x256x8192 .bf16) :
    List (View.Piece (Elt F) S1x32x8x8192 .bf16) :=
  [piece x0 x1 x2 x3 7680 inb_S1x32x8x8192_S1x32x8x512_0_0_0_7680 inb_S1024x8192_S1024x512_0_7680 inb_S1x8192_S1x512_0_7680 inb_S1x256x8192_S1x256x512_0_0_7680,
    piece x0 x1 x2 x3 7168 inb_S1x32x8x8192_S1x32x8x512_0_0_0_7168 inb_S1024x8192_S1024x512_0_7168 inb_S1x8192_S1x512_0_7168 inb_S1x256x8192_S1x256x512_0_0_7168,
    piece x0 x1 x2 x3 6656 inb_S1x32x8x8192_S1x32x8x512_0_0_0_6656 inb_S1024x8192_S1024x512_0_6656 inb_S1x8192_S1x512_0_6656 inb_S1x256x8192_S1x256x512_0_0_6656,
    piece x0 x1 x2 x3 6144 inb_S1x32x8x8192_S1x32x8x512_0_0_0_6144 inb_S1024x8192_S1024x512_0_6144 inb_S1x8192_S1x512_0_6144 inb_S1x256x8192_S1x256x512_0_0_6144,
    piece x0 x1 x2 x3 5632 inb_S1x32x8x8192_S1x32x8x512_0_0_0_5632 inb_S1024x8192_S1024x512_0_5632 inb_S1x8192_S1x512_0_5632 inb_S1x256x8192_S1x256x512_0_0_5632,
    piece x0 x1 x2 x3 5120 inb_S1x32x8x8192_S1x32x8x512_0_0_0_5120 inb_S1024x8192_S1024x512_0_5120 inb_S1x8192_S1x512_0_5120 inb_S1x256x8192_S1x256x512_0_0_5120,
    piece x0 x1 x2 x3 4608 inb_S1x32x8x8192_S1x32x8x512_0_0_0_4608 inb_S1024x8192_S1024x512_0_4608 inb_S1x8192_S1x512_0_4608 inb_S1x256x8192_S1x256x512_0_0_4608,
    piece x0 x1 x2 x3 4096 inb_S1x32x8x8192_S1x32x8x512_0_0_0_4096 inb_S1024x8192_S1024x512_0_4096 inb_S1x8192_S1x512_0_4096 inb_S1x256x8192_S1x256x512_0_0_4096,
    piece x0 x1 x2 x3 3584 inb_S1x32x8x8192_S1x32x8x512_0_0_0_3584 inb_S1024x8192_S1024x512_0_3584 inb_S1x8192_S1x512_0_3584 inb_S1x256x8192_S1x256x512_0_0_3584,
    piece x0 x1 x2 x3 3072 inb_S1x32x8x8192_S1x32x8x512_0_0_0_3072 inb_S1024x8192_S1024x512_0_3072 inb_S1x8192_S1x512_0_3072 inb_S1x256x8192_S1x256x512_0_0_3072,
    piece x0 x1 x2 x3 2560 inb_S1x32x8x8192_S1x32x8x512_0_0_0_2560 inb_S1024x8192_S1024x512_0_2560 inb_S1x8192_S1x512_0_2560 inb_S1x256x8192_S1x256x512_0_0_2560,
    piece x0 x1 x2 x3 2048 inb_S1x32x8x8192_S1x32x8x512_0_0_0_2048 inb_S1024x8192_S1024x512_0_2048 inb_S1x8192_S1x512_0_2048 inb_S1x256x8192_S1x256x512_0_0_2048,
    piece x0 x1 x2 x3 1536 inb_S1x32x8x8192_S1x32x8x512_0_0_0_1536 inb_S1024x8192_S1024x512_0_1536 inb_S1x8192_S1x512_0_1536 inb_S1x256x8192_S1x256x512_0_0_1536,
    piece x0 x1 x2 x3 1024 inb_S1x32x8x8192_S1x32x8x512_0_0_0_1024 inb_S1024x8192_S1024x512_0_1024 inb_S1x8192_S1x512_0_1024 inb_S1x256x8192_S1x256x512_0_0_1024,
    piece x0 x1 x2 x3 512 inb_S1x32x8x8192_S1x32x8x512_0_0_0_512 inb_S1024x8192_S1024x512_0_512 inb_S1x8192_S1x512_0_512 inb_S1x256x8192_S1x256x512_0_0_512,
    piece x0 x1 x2 x3 0 inb_S1x32x8x8192_S1x32x8x512_0_0_0_0 inb_S1024x8192_S1024x512_0_0 inb_S1x8192_S1x512_0_0 inb_S1x256x8192_S1x256x512_0_0_0]

/-- The run's pieces for the first output are the sixteen chunks. -/
theorem run4_eq : (kernelRun0_A c i arg2 harg2 arg3 harg3 arg4 harg4 arg5 harg5 arg6 harg6 arg7 harg7 arg8 harg8 x0 x1 x2 x3).1
    = pieces x0 x1 x2 x3 := by
  have hx : View.ld x0 (Rect.unit ![0, 0, 0] ![1, 256, 1024] inb_S1x256x1024_S1x256x1024_0_0_0) = x0 :=
    View.ld_unit_zero (S := S1x256x1024) hz3 _ x0
  unfold kernelRun0_A
  dsimp only
  sl_unfold_words
  simp only [View.readAt_eq_ld, harg2.read_unread, harg3.read_unread, harg4.read_unread, harg5.read_unread, View.readCov_cons_toLoadRect, hx]
  rfl

/-- The first output's block, as a vector. -/
def blockV (x0 : Vec Ideal S1x256x1024 .bf16) (x1 : Vec Ideal S1024x8192 .fp8e4m3) (x2 : Vec Ideal S1x8192 .f32) (x3 : Vec Ideal S1x256x8192 .bf16) :
    S1x32x8x8192.Idx → Elt Ideal .bf16 := fun y => blockY x0 x1 x2 x3 (rowOf (y 1) (y 2)) (y 3)

/-- A chunk holds the block's entries. -/
theorem piece_at (x0 : Vec Ideal S1x256x1024 .bf16) (x1 : Vec Ideal S1024x8192 .fp8e4m3) (x2 : Vec Ideal S1x8192 .f32) (x3 : Vec Ideal S1x256x8192 .bf16)
    (n0 : Nat) (hy : ∀ a, (![0, 0, 0, n0] : Fin 4 → Nat) a + (![1, 32, 8, 512] : Fin 4 → Nat) a ≤ S1x32x8x8192.size a)
    (hw : ∀ a, (![0, n0] : Fin 2 → Nat) a + (![1024, 512] : Fin 2 → Nat) a ≤ S1024x8192.size a)
    (hs : ∀ a, (![0, n0] : Fin 2 → Nat) a + (![1, 512] : Fin 2 → Nat) a ≤ S1x8192.size a)
    (hr : ∀ a, (![0, 0, n0] : Fin 3 → Nat) a + (![1, 256, 512] : Fin 3 → Nat) a ≤ S1x256x8192.size a) :
    ∀ x : (piece x0 x1 x2 x3 n0 hy hw hs hr).1.shape.Idx,
      (piece x0 x1 x2 x3 n0 hy hw hs hr).2 x = blockV x0 x1 x2 x3 ((piece x0 x1 x2 x3 n0 hy hw hs hr).1.emb x) :=
  fun x => chunk_at x0 x1 x2 x3 n0 hy hw hs hr x

/-- Every chunk holds the block's entries. -/
theorem pieces_at (x0 : Vec Ideal S1x256x1024 .bf16) (x1 : Vec Ideal S1024x8192 .fp8e4m3) (x2 : Vec Ideal S1x8192 .f32) (x3 : Vec Ideal S1x256x8192 .bf16) :
    ∀ p ∈ pieces x0 x1 x2 x3, ∀ x : p.1.shape.Idx, p.2 x = blockV x0 x1 x2 x3 (p.1.emb x) := by
  intro p hp
  simp only [pieces, List.mem_cons, List.not_mem_nil, or_false] at hp
  rcases hp with rfl | rfl | rfl | rfl | rfl | rfl | rfl | rfl | rfl | rfl | rfl | rfl | rfl | rfl | rfl | rfl <;>
    apply piece_at

/-- The first output's block at an index. -/
theorem out4_at (x0 : Vec Ideal S1x256x1024 .bf16) (x1 : Vec Ideal S1024x8192 .fp8e4m3) (x2 : Vec Ideal S1x8192 .f32) (x3 : Vec Ideal S1x256x8192 .bf16)
    (y : S1x32x8x8192.Idx) :
    out0_A_4 c i arg2 harg2 arg3 harg3 arg4 harg4 arg5 harg5 arg6 harg6 arg7 harg7 arg8 harg8 x0 x1 x2 x3 y
      = blockV x0 x1 x2 x3 y := by
  have hc := cover0_A_4 c i arg2 harg2 arg3 harg3 arg4 harg4 arg5 harg5 arg6 harg6 arg7 harg7 arg8 harg8 x0 x1 x2 x3
  unfold out0_A_4
  rw [View.read_writes_eq_canon _ _ _ hc]
  have hy := hc y
  rw [run4_eq] at hy ⊢
  exact View.canon_apply_of_pieces (blockV x0 x1 x2 x3) _ (pieces_at x0 x1 x2 x3) y hy

end Cert.Proof.KernelBlock

end
-- ==== Proof.KernelArray.lean ====
/- What the kernel's three arrays hold after the run, over the extended reals. Grid point `t` works on batch `t / 8` and on the rows
   `256 · (t % 8) … 256 · (t % 8) + 255` of it. -/
module

public import proofs.«01_k».proof.Proof.Gen.KernelIdeal.Value
public import proofs.«01_k».proof.Proof.KernelBlock

@[expose] public section

set_option maxRecDepth 16384

noncomputable section

namespace Cert.Proof.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Proof.Row Cert.Proof.Exponent Cert.Proof.KernelBlock

variable (m : (ℓ : Loc nD τ sig) → Buf (Elt Ideal) ℓ)

/-! ## Where a grid point's blocks lie -/

/-- The number of grid points. -/
theorem N_eq : cfg0.N = 24 := by decide +kernel

/-- The batch of a grid point. -/
def batchOf (t : Fin cfg0.N) : Fin 3 := ⟨t.val / 8, by have h : t.val < 24 := Nat.lt_of_lt_of_eq t.isLt N_eq; omega⟩

/-- Row `r` of a grid point's block, as a row of its batch. -/
def rowAt (t : Fin cfg0.N) (r : Fin 256) : Fin 2048 := ⟨t.val % 8 * 256 + r.val, by have := r.isLt; omega⟩

/-- Leading row `p` of a grid point's result block, as a leading row of its batch. -/
def leadAt (t : Fin cfg0.N) (p : Fin 32) : Fin 256 := ⟨t.val % 8 * 32 + p.val, by have := p.isLt; omega⟩

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)

theorem index4 : ∀ t : Fin cfg0.N, win0_4.index t (0 : Fin 4) = t.val / 8 ∧ win0_4.index t (1 : Fin 4) = t.val % 8
    ∧ win0_4.index t (2 : Fin 4) = 0 ∧ win0_4.index t (3 : Fin 4) = 0 :=
  (by decide +kernel : ∀ t : Fin grid0.N, _)

theorem index5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)

theorem index6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

/-- An index of the activation block, as an index of the activations. -/
theorem emb0 (t : Fin cfg0.N) (u : Fin 1) (r : Fin 256) (k : Fin 1024) :
    ((cfg0.win 0).blk t).view.emb (ix3 u r k) = ix3 (batchOf t) (rowAt t r) k := by
  obtain ⟨e0, e1, e2⟩ := index0 t
  have hu := u.isLt
  funext a; apply Fin.ext
  match a with
  | ⟨0, _⟩ => show win0_0.index t (0 : Fin 3) * 1 + 1 * u.val = t.val / 8; omega
  | ⟨1, _⟩ => show win0_0.index t (1 : Fin 3) * 256 + 1 * r.val = t.val % 8 * 256 + r.val; omega
  | ⟨2, _⟩ => show win0_0.index t (2 : Fin 3) * 1024 + 1 * k.val = k.val; omega

/-- The weight block is the weights. -/
theorem emb1 (t : Fin cfg0.N) (k : Fin 1024) (n : Fin 8192) : ((cfg0.win 1).blk t).view.emb (ix2 k n) = ix2 k n := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 8192 + 1 * n.val = n.val; omega

/-- The column scales' block is the column scales. -/
theorem emb2 (t : Fin cfg0.N) (u : Fin 1) (n : Fin 8192) : ((cfg0.win 2).blk t).view.emb (ix2 u n) = ix2 u n := by
  obtain ⟨e0, e1⟩ := index2 t
  funext a; apply Fin.ext
  match a with
  | ⟨0, _⟩ => show win0_2.index t (0 : Fin 2) * 1 + 1 * u.val = u.val; omega
  | ⟨1, _⟩ => show win0_2.index t (1 : Fin 2) * 8192 + 1 * n.val = n.val; omega

/-- An index of the residual block, as an index of the residuals. -/
theorem emb3 (t : Fin cfg0.N) (u : Fin 1) (r : Fin 256) (n : Fin 8192) :
    ((cfg0.win 3).blk t).view.emb (ix3 u r n) = ix3 (batchOf t) (rowAt t r) n := by
  obtain ⟨e0, e1, e2⟩ := index3 t
  have hu := u.isLt
  funext a; apply Fin.ext
  match a with
  | ⟨0, _⟩ => show win0_3.index t (0 : Fin 3) * 1 + 1 * u.val = t.val / 8; omega
  | ⟨1, _⟩ => show win0_3.index t (1 : Fin 3) * 256 + 1 * r.val = t.val % 8 * 256 + r.val; omega
  | ⟨2, _⟩ => show win0_3.index t (2 : Fin 3) * 8192 + 1 * n.val = n.val; omega

/-- An index of the result block, as an index of the result. -/
theorem emb4 (t : Fin cfg0.N) (u : Fin 1) (p : Fin 32) (r : Fin 8) (n : Fin 8192) :
    ((cfg0.win 4).blk t).view.emb (ix4 u p r n) = ix4 (batchOf t) (leadAt t p) r n := by
  obtain ⟨e0, e1, e2, e3⟩ := index4 t
  have hu := u.isLt
  funext a; apply Fin.ext
  match a with
  | ⟨0, _⟩ => show win0_4.index t (0 : Fin 4) * 1 + 1 * u.val = t.val / 8; omega
  | ⟨1, _⟩ => show win0_4.index t (1 : Fin 4) * 32 + 1 * p.val = t.val % 8 * 32 + p.val; omega
  | ⟨2, _⟩ => show win0_4.index t (2 : Fin 4) * 8 + 1 * r.val = r.val; omega
  | ⟨3, _⟩ => show win0_4.index t (3 : Fin 4) * 8192 + 1 * n.val = n.val; omega

/-- An index of the code block, as an index of the codes. -/
theorem emb5 (t : Fin cfg0.N) (u : Fin 1) (r : Fin 256) (k : Fin 1024) :
    ((cfg0.win 5).blk t).view.emb (ix3 u r k) = ix3 (batchOf t) (rowAt t r) k := by
  obtain ⟨e0, e1, e2⟩ := index5 t
  have hu := u.isLt
  funext a; apply Fin.ext
  match a with
  | ⟨0, _⟩ => show win0_5.index t (0 : Fin 3) * 1 + 1 * u.val = t.val / 8; omega
  | ⟨1, _⟩ => show win0_5.index t (1 : Fin 3) * 256 + 1 * r.val = t.val % 8 * 256 + r.val; omega
  | ⟨2, _⟩ => show win0_5.index t (2 : Fin 3) * 1024 + 1 * k.val = k.val; omega

/-- An index of the scale block, as an index of the scales. -/
theorem emb6 (t : Fin cfg0.N) (u : Fin 1) (r : Fin 256) (v : Fin 1) :
    ((cfg0.win 6).blk t).view.emb (ix3 u r v) = ix3 (batchOf t) (rowAt t r) v := by
  obtain ⟨e0, e1, e2⟩ := index6 t
  have hu := u.isLt
  funext a; apply Fin.ext
  match a with
  | ⟨0, _⟩ => show win0_6.index t (0 : Fin 3) * 1 + 1 * u.val = t.val / 8; omega
  | ⟨1, _⟩ => show win0_6.index t (1 : Fin 3) * 256 + 1 * r.val = t.val % 8 * 256 + r.val; omega
  | ⟨2, _⟩ => show win0_6.index t (2 : Fin 3) * 1 + 1 * v.val = v.val; omega

/-! ## The blocks of the arguments -/

/-- The column scales as the kernel stages them: the argument with a unit axis in front. -/
theorem V_main_v0 (c : Dev nD) : V m c main_v0 = shapeCast S1x8192 (m ((c : Thread nD τ).loc main_arg2)) shapeCasts_S8192_S1x8192 := by
  show StableHlo.after [StableHlo.reshape main_arg2 main_v0 rfl shapeCasts_S8192_S1x8192] (fun b => m (c, b)) (Proc.devRef .tc main_v0) = _
  rw [StableHlo.after_cons, StableHlo.after_nil]
  exact StableHlo.reshape_result' _ _ _ _ _

theorem blk0_at (c : Dev nD) (t : Fin cfg0.N) (u : Fin 1) (r : Fin 256) (k : Fin 1024) :
    (iblk m c 0 t : Vec Ideal S1x256x1024 .bf16) (ix3 u r k) = m ((c : Thread nD τ).loc main_arg0) (ix3 (batchOf t) (rowAt t r) k) := by
  rw [← V_main_arg0 m c, ← emb0 t u r k]; rfl

theorem blk1_at (c : Dev nD) (t : Fin cfg0.N) (k : Fin 1024) (n : Fin 8192) :
    (iblk m c 1 t : Vec Ideal S1024x8192 .fp8e4m3) (ix2 k n) = m ((c : Thread nD τ).loc main_arg1) (ix2 k n) := by
  rw [← V_main_arg1 m c]
  show V m c main_arg1 (((cfg0.win 1).blk t).view.emb (ix2 k n)) = _
  rw [emb1]

theorem blk2_at (c : Dev nD) (t : Fin cfg0.N) (u : Fin 1) (n : Fin 8192) :
    (iblk m c 2 t : Vec Ideal S1x8192 .f32) (ix2 u n) = m ((c : Thread nD τ).loc main_arg2) (ix1 n) := by
  show V m c main_v0 (((cfg0.win 2).blk t).view.emb (ix2 u n)) = _
  rw [emb2, V_main_v0]
  refine shapeCast_apply _ _ _ _ ?_
  have hu := u.isLt
  show (S8192.rowMajor (ix1 n)).val = (S1x8192.rowMajor (ix2 u n)).val
  rw [Shape.rowMajor_val_one, Shape.rowMajor_val_two]
  show n.val = u.val * 8192 + n.val
  omega

theorem blk3_at (c : Dev nD) (t : Fin cfg0.N) (u : Fin 1) (r : Fin 256) (n : Fin 8192) :
    (iblk m c 3 t : Vec Ideal S1x256x8192 .bf16) (ix3 u r n) = m ((c : Thread nD τ).loc main_arg3) (ix3 (batchOf t) (rowAt t r) n) := by
  rw [← V_main_arg3 m c, ← emb3 t u r n]; rfl

/-! ## The arrays -/

/-- Row `(b, s)` of the activations. -/
abbrev xrow (x : Vec Ideal S3x2048x1024 .bf16) (b : Fin 3) (s : Fin 2048) : Fin 1024 → EReal := fun k => x (ix3 b s k)

/-- The row of the batch that a result row `(p, r)` comes from. -/
def rowOfLead (p : Fin 256) (r : Fin 8) : Fin 2048 := ⟨p.val * 8 + r.val, by omega⟩

/-- The result. -/
def resultG (x : Vec Ideal S3x2048x1024 .bf16) (w : Vec Ideal S1024x8192 .fp8e4m3) (ws : Vec Ideal S8192 .f32) (res : Vec Ideal S3x2048x8192 .bf16) :
    Vec Ideal S3x256x8x8192 .bf16 := fun i =>
  entry (fun k => code (x (ix3 (i 0) (rowOfLead (i 1) (i 2)) k)) (kinv (rowMax (xrow x (i 0) (rowOfLead (i 1) (i 2))))))
    (fun k => w (ix2 k (i 3))) (kscale (rowMax (xrow x (i 0) (rowOfLead (i 1) (i 2))))) (ws (ix1 (i 3))) (res (ix3 (i 0) (rowOfLead (i 1) (i 2)) (i 3)))

/-- The codes. -/
def codesG (x : Vec Ideal S3x2048x1024 .bf16) : Vec Ideal S3x2048x1024 .fp8e4m3 := fun i =>
  code (x (ix3 (i 0) (i 1) (i 2))) (kinv (rowMax (xrow x (i 0) (i 1))))

/-- The scales. -/
def scalesG (x : Vec Ideal S3x2048x1024 .bf16) : Vec Ideal S3x2048x1 .f32 := fun i => kscale (rowMax (xrow x (i 0) (i 1)))

/-- A row of a grid point's activation block is a row of the activations. -/
theorem brow_eq (c : Dev nD) (t : Fin cfg0.N) (r : Fin 256) :
    brow (iblk m c 0 t) r = xrow (m ((c : Thread nD τ).loc main_arg0)) (batchOf t) (rowAt t r) :=
  funext fun k => blk0_at m c t 0 r k

/-- Element by element, a grid point's scales are those of its rows. -/
theorem point6 (c : Dev nD) (t : Fin cfg0.N) (u : Fin 1) (r : Fin 256) (v : Fin 1) :
    k0_pay13 (scaleV (iblk m c 0 t)) (ix3 u r v)
      = scalesG (m ((c : Thread nD τ).loc main_arg0)) (((cfg0.win 6).blk t).view.emb (ix3 u r v)) := by
  rw [emb6, pay13_at, scaleV_at, brow_eq]
  rfl

/-- Element by element, a grid point's codes are those of its rows. -/
theorem point5 (c : Dev nD) (t : Fin cfg0.N) (u : Fin 1) (r : Fin 256) (k : Fin 1024) :
    codesV (iblk m c 0 t) (ix3 u r k)
      = codesG (m ((c : Thread nD τ).loc main_arg0)) (((cfg0.win 5).blk t).view.emb (ix3 u r k)) := by
  rw [emb5]
  obtain rfl : u = 0 := Subsingleton.elim _ _
  refine (codesV_at _ _ _ _).trans ?_
  rw [brow_eq, blk0_at]
  rfl

/-- Element by element, a grid point's results are those of its rows. -/
theorem point4 (c : Dev nD) (t : Fin cfg0.N) (u : Fin 1) (p : Fin 32) (r : Fin 8) (n : Fin 8192) :
    blockY (iblk m c 0 t) (iblk m c 1 t) (iblk m c 2 t) (iblk m c 3 t) (rowOf p r) n
      = resultG (m ((c : Thread nD τ).loc main_arg0)) (m ((c : Thread nD τ).loc main_arg1)) (m ((c : Thread nD τ).loc main_arg2))
          (m ((c : Thread nD τ).loc main_arg3)) (((cfg0.win 4).blk t).view.emb (ix4 u p r n)) := by
  have er : rowAt t (rowOf p r) = rowOfLead (leadAt t p) r := by
    apply Fin.ext
    show t.val % 8 * 256 + (p.val * 8 + r.val) = (t.val % 8 * 32 + p.val) * 8 + r.val
    omega
  rw [emb4]
  unfold blockY
  rw [brow_eq, er]
  simp only [blk0_at, blk1_at, blk2_at, blk3_at, er]
  rfl

/-- What a grid point writes back to the scales is its block of `scalesG`. -/
theorem flushed6_eq (c : Dev nD) (t : Fin cfg0.N) :
    (dats m 0 c).flushed 6 t = ((cfg0.win 6).blk t).view.read (Elt Ideal) (scalesG (m ((c : Thread nD τ).loc main_arg0))) := by
  rw [Value.flushed6_A, out6_eq]
  funext j
  rw [eq_ix3 (n0 := 1) (n1 := 256) (n2 := 1) j]
  exact point6 m c t (j 0) (j 1) (j 2)

/-- What a grid point writes back to the codes is its block of `codesG`. -/
theorem flushed5_eq (c : Dev nD) (t : Fin cfg0.N) :
    (dats m 0 c).flushed 5 t = ((cfg0.win 5).blk t).view.read (Elt Ideal) (codesG (m ((c : Thread nD τ).loc main_arg0))) := by
  rw [Value.flushed5_A, out5_eq]
  funext j
  rw [eq_ix3 (n0 := 1) (n1 := 256) (n2 := 1024) j]
  exact point5 m c t (j 0) (j 1) (j 2)

/-- What a grid point writes back to the result is its block of `resultG`. -/
theorem flushed4_eq (c : Dev nD) (t : Fin cfg0.N) :
    (dats m 0 c).flushed 4 t = ((cfg0.win 4).blk t).view.read (Elt Ideal) (resultG (m ((c : Thread nD τ).loc main_arg0)) (m ((c : Thread nD τ).loc main_arg1))
      (m ((c : Thread nD τ).loc main_arg2)) (m ((c : Thread nD τ).loc main_arg3))) := by
  rw [Value.flushed4_A]
  funext j
  rw [eq_ix4 (n0 := 1) (n1 := 32) (n2 := 8) (n3 := 8192) j]
  refine (out4_at c (grid0.coords t) _ _ _ _ _ _ _ _ _ _ _ _ _ _ (iblk m c 0 t) (iblk m c 1 t) (iblk m c 2 t) (iblk m c 3 t) (ix4 (j 0) (j 1) (j 2) (j 3))).trans ?_
  exact point4 m c t (j 0) (j 1) (j 2) (j 3)

/-- The grid point that works on row `s` of batch `b`. -/
def pointOf (b : Fin 3) (s : Fin 2048) : Fin cfg0.N := ⟨b.val * 8 + s.val / 256, Nat.lt_of_lt_of_eq (by omega : _ < 24) N_eq.symm⟩

/-- The grid point that works on leading row `p` of batch `b`. -/
def pointOfLead (b : Fin 3) (p : Fin 256) : Fin cfg0.N := ⟨b.val * 8 + p.val / 32, Nat.lt_of_lt_of_eq (by omega : _ < 24) N_eq.symm⟩

theorem batchOf_pointOf (b : Fin 3) (s : Fin 2048) : batchOf (pointOf b s) = b :=
  Fin.ext (by show (b.val * 8 + s.val / 256) / 8 = b.val; omega)

theorem batchOf_pointOfLead (b : Fin 3) (p : Fin 256) : batchOf (pointOfLead b p) = b :=
  Fin.ext (by show (b.val * 8 + p.val / 32) / 8 = b.val; omega)

theorem rowAt_pointOf (b : Fin 3) (s : Fin 2048) : rowAt (pointOf b s) ⟨s.val % 256, by omega⟩ = s :=
  Fin.ext (by show (b.val * 8 + s.val / 256) % 8 * 256 + s.val % 256 = s.val; omega)

theorem leadAt_pointOfLead (b : Fin 3) (p : Fin 256) : leadAt (pointOfLead b p) ⟨p.val % 32, by omega⟩ = p :=
  Fin.ext (by show (b.val * 8 + p.val / 32) % 8 * 32 + p.val % 32 = p.val; omega)

/-- Every element of the result lies in the block of some grid point. -/
theorem covered4_at (b : Fin 3) (p : Fin 256) (r : Fin 8) (n : Fin 8192) :
    (ix4 b p r n : S3x256x8x8192.Idx) ∈ ((cfg0.win 4).blk (pointOfLead b p)).view.set := by
  have e := emb4 (pointOfLead b p) 0 ⟨p.val % 32, by omega⟩ r n
  rw [batchOf_pointOfLead, leadAt_pointOfLead] at e
  exact e ▸ ((cfg0.win 4).blk (pointOfLead b p)).view.emb_mem_set _

/-- Every code lies in the block of some grid point. -/
theorem covered5_at (b : Fin 3) (s : Fin 2048) (k : Fin 1024) :
    (ix3 b s k : S3x2048x1024.Idx) ∈ ((cfg0.win 5).blk (pointOf b s)).view.set := by
  have e := emb5 (pointOf b s) 0 ⟨s.val % 256, by omega⟩ k
  rw [batchOf_pointOf, rowAt_pointOf] at e
  exact e ▸ ((cfg0.win 5).blk (pointOf b s)).view.emb_mem_set _

/-- Every scale lies in the block of some grid point. -/
theorem covered6_at (b : Fin 3) (s : Fin 2048) (u : Fin 1) :
    (ix3 b s u : S3x2048x1.Idx) ∈ ((cfg0.win 6).blk (pointOf b s)).view.set := by
  have e := emb6 (pointOf b s) 0 ⟨s.val % 256, by omega⟩ u
  rw [batchOf_pointOf, rowAt_pointOf] at e
  exact e ▸ ((cfg0.win 6).blk (pointOf b s)).view.emb_mem_set _

theorem covered4 (i : S3x256x8x8192.Idx) : ∃ t : Fin cfg0.N, (cfg0.win 4).flush t = true ∧ i ∈ ((cfg0.win 4).blk t).view.set := by
  rw [eq_ix4 (n0 := 3) (n1 := 256) (n2 := 8) (n3 := 8192) i]
  exact ⟨pointOfLead (i 0) (i 1), flush0_4 _, covered4_at (i 0) (i 1) (i 2) (i 3)⟩

theorem covered5 (i : S3x2048x1024.Idx) : ∃ t : Fin cfg0.N, (cfg0.win 5).flush t = true ∧ i ∈ ((cfg0.win 5).blk t).view.set := by
  rw [eq_ix3 (n0 := 3) (n1 := 2048) (n2 := 1024) i]
  exact ⟨pointOf (i 0) (i 1), flush0_5 _, covered5_at (i 0) (i 1) (i 2)⟩

theorem covered6 (i : S3x2048x1.Idx) : ∃ t : Fin cfg0.N, (cfg0.win 6).flush t = true ∧ i ∈ ((cfg0.win 6).blk t).view.set := by
  rw [eq_ix3 (n0 := 3) (n1 := 2048) (n2 := 1) i]
  exact ⟨pointOf (i 0) (i 1), flush0_6 _, covered6_at (i 0) (i 1) (i 2)⟩

/-- The result array after the run. -/
theorem final4 (c : Dev nD) : (dats m 0 c).arrAt 4 cfg0.N = resultG (m ((c : Thread nD τ).loc main_arg0)) (m ((c : Thread nD τ).loc main_arg1))
    (m ((c : Thread nD τ).loc main_arg2)) (m ((c : Thread nD τ).loc main_arg3)) :=
  (dats m 0 c).arrAt_eq_of_cover 4 _ (fun t _ => flushed4_eq m c t) covered4

/-- The code array after the run. -/
theorem final5 (c : Dev nD) : (dats m 0 c).arrAt 5 cfg0.N = codesG (m ((c : Thread nD τ).loc main_arg0)) :=
  (dats m 0 c).arrAt_eq_of_cover 5 _ (fun t _ => flushed5_eq m c t) covered5

/-- The scale array after the run. -/
theorem final6 (c : Dev nD) : (dats m 0 c).arrAt 6 cfg0.N = scalesG (m ((c : Thread nD τ).loc main_arg0)) :=
  (dats m 0 c).arrAt_eq_of_cover 6 _ (fun t _ => flushed6_eq m c t) covered6

/-- The run ends with the three arrays above and the arguments as they were. -/
theorem run (ρ : Dev nD → PrngReg) : θ_run defs (onTc (τ := τ) (main (F := Ideal))) ⟨m, fun _ => 0, ρ⟩ fun r => ∀ c : Dev nD,
      r.2.mem ((c : Thread nD τ).loc main_v1_0) = resultG (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = codesG (m ((c : Thread nD τ).loc main_arg0))
      ∧ r.2.mem ((c : Thread nD τ).loc main_v1_2) = scalesG (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h4, h5, h6, h⟩ := h c
    exact ⟨h4.trans (final4 m c), h5.trans (final5 m c), h6.trans (final6 m c), h⟩) (Value.run_blocks m ρ)

end Cert.Proof.Kernel

end
-- ==== Proof.ReferenceRun.lean ====
/- The reference program's run, read: each of its three arrays holds one stored value, a function of the arguments. The
   grid has one point, so every window's block is its whole array. -/
module

public import proofs.«01_k».proof.Proof.Gen.ReferenceIdeal.Frame
public import Idealize.ShloMosaic.Lib.Pipeline.Value

@[expose] public section

noncomputable section

namespace Cert.Proof.Reference

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)
/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x2048x1024.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 2048 + 1 * (j 1).val = (j 1).val; omega
  | ⟨2, _⟩ => show win0_0.index t (2 : Fin 3) * 1024 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x8192.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 8192 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S8192.Idx) : ((cfg0.win 2).blk t).view.emb j = j := by
  have e0 := idx_zero2 t
  funext a; apply Fin.ext
  match a with
  | ⟨0, _⟩ => show win0_2.index t (0 : Fin 1) * 8192 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S3x2048x8192.Idx) : ((cfg0.win 3).blk t).view.emb j = j := by
  obtain ⟨e0, e1, e2⟩ := idx_zero3 t
  funext a; apply Fin.ext
  match a with
  | ⟨0, _⟩ => show win0_3.index t (0 : Fin 3) * 3 + 1 * (j 0).val = (j 0).val; omega
  | ⟨1, _⟩ => show win0_3.index t (1 : Fin 3) * 2048 + 1 * (j 1).val = (j 1).val; omega
  | ⟨2, _⟩ => show win0_3.index t (2 : Fin 3) * 8192 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0, 0] : Fin 4 → Nat) = fun _ => 0 := funext fun a => by fin_cases a <;> rfl

/-- Window 4's block index at the one point is zero on every axis. -/
theorem idx_zero4 : ∀ t : Fin cfg0.N, win0_4.index t (0 : Fin 4) = 0 ∧ win0_4.index t (1 : Fin 4) = 0 ∧ win0_4.index t (2 : Fin 4) = 0 ∧ win0_4.index t (3 : Fin 4) = 0 :=
  (by decide +kernel : ∀ t : Fin grid0.N, _)

/-- An index of window 4's block is the same index of its array. -/
theorem emb4 (t : Fin cfg0.N) (j : S3x256x8x8192.Idx) : ((cfg0.win 4).blk t).view.emb j = j := by
  obtain ⟨e0, e1, e2, e3⟩ := idx_zero4 t
  funext a; apply Fin.ext
  match a with
  | ⟨0, _⟩ => show win0_4.index t (0 : Fin 4) * 3 + 1 * (j 0).val = (j 0).val; omega
  | ⟨1, _⟩ => show win0_4.index t (1 : Fin 4) * 256 + 1 * (j 1).val = (j 1).val; omega
  | ⟨2, _⟩ => show win0_4.index t (2 : Fin 4) * 8 + 1 * (j 2).val = (j 2).val; omega
  | ⟨3, _⟩ => show win0_4.index t (3 : Fin 4) * 8192 + 1 * (j 3).val = (j 3).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S3x2048x1024.Idx) : ((cfg0.win 5).blk t).view.emb j = j := by
  obtain ⟨e0, e1, e2⟩ := idx_zero5 t
  funext a; apply Fin.ext
  match a with
  | ⟨0, _⟩ => show win0_5.index t (0 : Fin 3) * 3 + 1 * (j 0).val = (j 0).val; omega
  | ⟨1, _⟩ => show win0_5.index t (1 : Fin 3) * 2048 + 1 * (j 1).val = (j 1).val; omega
  | ⟨2, _⟩ => show win0_5.index t (2 : Fin 3) * 1024 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S3x2048x1.Idx) : ((cfg0.win 6).blk t).view.emb j = j := by
  obtain ⟨e0, e1, e2⟩ := idx_zero6 t
  funext a; apply Fin.ext
  match a with
  | ⟨0, _⟩ => show win0_6.index t (0 : Fin 3) * 3 + 1 * (j 0).val = (j 0).val; omega
  | ⟨1, _⟩ => show win0_6.index t (1 : Fin 3) * 2048 + 1 * (j 1).val = (j 1).val; omega
  | ⟨2, _⟩ => show win0_6.index t (2 : Fin 3) * 1 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S3x2048x1024 .bf16) (a1 : Vec F S1024x8192 .fp8e4m3) (a2 : Vec F S8192 .f32) (a3 : Vec F S3x2048x8192 .bf16) : Vec F S3x256x8x8192 .bf16 :=
  k0_pay1 (k0_pay6 a0 a1 a2) a3

/-- A load of the whole of a block reads the block, and the one store through the whole rectangle leaves its payload. -/
theorem out4_eq (a0 : Vec F S3x2048x1024 .bf16) (a1 : Vec F S1024x8192 .fp8e4m3) (a2 : Vec F S8192 .f32) (a3 : Vec F S3x2048x8192 .bf16) : out0_4 (F := F) a0 a1 a2 a3 = G4 a0 a1 a2 a3 := by
  unfold out0_4
  rw [View.canon_unit_zero hz4, View.ld_unit_zero (S := S3x2048x1024) hz0 _ a0, View.ld_unit_zero (S := S1024x8192) hz1 _ a1, View.ld_unit_zero (S := S8192) hz2 _ a2, View.ld_unit_zero (S := S3x2048x8192) hz3 _ a3]

/-- Cutting the point's block out of `X` and reading `X` through the block's view give the same. -/
theorem cut4_eq (t : Fin cfg0.N) (X : Vec F S3x256x8x8192 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S3x256x8x8192.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S3x2048x1024 .bf16) (a1 : Vec F S1024x8192 .fp8e4m3) (a2 : Vec F S8192 .f32) (a3 : Vec F S3x2048x8192 .bf16) : Vec F S3x2048x1024 .fp8e4m3 :=
  k0_pay5 a0

/-- A load of the whole of a block reads the block, and the one store through the whole rectangle leaves its payload. -/
theorem out5_eq (a0 : Vec F S3x2048x1024 .bf16) (a1 : Vec F S1024x8192 .fp8e4m3) (a2 : Vec F S8192 .f32) (a3 : Vec F S3x2048x8192 .bf16) : out0_5 (F := F) a0 a1 a2 a3 = G5 a0 a1 a2 a3 := by
  unfold out0_5
  rw [View.canon_unit_zero hz5, View.ld_unit_zero (S := S3x2048x1024) hz0 _ a0]

/-- Cutting the point's block out of `X` and reading `X` through the block's view give the same. -/
theorem cut5_eq (t : Fin cfg0.N) (X : Vec F S3x2048x1024 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S3x2048x1024.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S3x2048x1024 .bf16) (a1 : Vec F S1024x8192 .fp8e4m3) (a2 : Vec F S8192 .f32) (a3 : Vec F S3x2048x8192 .bf16) : Vec F S3x2048x1 .f32 :=
  k0_pay4 a0

/-- A load of the whole of a block reads the block, and the one store through the whole rectangle leaves its payload. -/
theorem out6_eq (a0 : Vec F S3x2048x1024 .bf16) (a1 : Vec F S1024x8192 .fp8e4m3) (a2 : Vec F S8192 .f32) (a3 : Vec F S3x2048x8192 .bf16) : out0_6 (F := F) a0 a1 a2 a3 = G6 a0 a1 a2 a3 := by
  unfold out0_6
  rw [View.canon_unit_zero hz6, View.ld_unit_zero (S := S3x2048x1024) hz0 _ a0]

/-- Cutting the point's block out of `X` and reading `X` through the block's view give the same. -/
theorem cut6_eq (t : Fin cfg0.N) (X : Vec F S3x2048x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S3x2048x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.Proof.Reference

end
-- ==== Proof.ReferenceValue.lean ====
/- What the reference's three arrays hold at an index, over the extended reals. -/
module

public import proofs.«01_k».proof.Proof.ReferenceRun
public import proofs.«01_k».proof.Proof.Row
public import Idealize.ShloMosaic.PureOps.Ideal.Laws

@[expose] public section

noncomputable section

namespace Cert.Proof.Reference

open Cert.ReferenceIdeal Cert.ReferenceIdeal.Gen Idealize.ShloMosaic Idealize.ShloMosaic.ValueIdx
open Cert.Proof.Row Cert.Proof.Exponent

/-- Row `(b, s)` of the activations. -/
abbrev xrow (x : Vec Ideal S3x2048x1024 .bf16) (b : Fin 3) (s : Fin 2048) : Fin 1024 → EReal := fun k => x (ix3 b s k)

/-- The row maxima, as the reference's text takes them. -/
def amaxV (x : Vec Ideal S3x2048x1024 .bf16) : FVec Ideal S3x2048x1 .f32 :=
  shapeCast S3x2048x1 (multiReduction .maximumf [2] S3x2048 (absf (k0_pay2 x)) 0xFF800000#32 reduces_S3x2048x1024_S3x2048 (.inl rfl) rfl)
    shapeCasts_S3x2048_S3x2048x1

/-- The exponents of the row maxima `a`, as the reference's text computes them. -/
def expoV (a : FVec Ideal S3x2048x1 .f32) : FVec Ideal S3x2048x1 .f32 :=
  select (cmpf .oeq a (broadcast S3x2048x1 (Scalar.ofBits .f32 0x00000000#32 : Ideal .f32))) (broadcast S3x2048x1 (Scalar.ofBits .f32 0x00000000#32 : Ideal .f32))
    (select (cmpf .olt (mulf a (broadcast S3x2048x1 (Scalar.ofBits .f32 0x3B124925#32 : Ideal .f32))) (broadcast S3x2048x1 (Scalar.ofBits .f32 0x00800000#32 : Ideal .f32)))
      (broadcast S3x2048x1 (Scalar.ofBits .f32 0x00000000#32 : Ideal .f32))
      (addf (floor (divf (log (mulf a (broadcast S3x2048x1 (Scalar.ofBits .f32 0x3B124925#32 : Ideal .f32)))) (log (broadcast S3x2048x1 (Scalar.ofBits .f32 0x40000000#32 : Ideal .f32)))))
        (broadcast S3x2048x1 (Scalar.ofBits .f32 0x3F800000#32 : Ideal .f32))))

/-- The row maximum the reference takes is `rowMax` of the row. -/
theorem amax_at (x : Vec Ideal S3x2048x1024 .bf16) (b : Fin 3) (s : Fin 2048) (u : Fin 1) :
    amaxV x (ix3 b s u) = rowMax (xrow x b s) := by
  unfold amaxV
  refine (shapeCast_apply _ _ (ix3 b s u) (ix2 b s) ?_).trans ?_
  · rw [Shape.rowMajor_val_two, Shape.rowMajor_val_three]
    show b.val * 2048 + s.val = (b.val * 2048 + s.val) * 1 + u.val
    omega
  · refine (Ideal.multiReduction_maximumf_single _ _ _ _ _ _).trans ?_
    unfold rowMax
    refine Finset.fold_congr fun k _ => ?_
    have e : Shape.Reduces.lift reduces_S3x2048x1024_S3x2048 (ix2 b s) k = ix3 b s k := by
      funext a; fin_cases a <;> rfl
    show max (x (Shape.Reduces.lift reduces_S3x2048x1024_S3x2048 (ix2 b s) k)) (-(x (Shape.Reduces.lift reduces_S3x2048x1024_S3x2048 (ix2 b s) k))) = _
    rw [e]
    rfl

/-- The exponents at an index. -/
theorem expo_at (a : FVec Ideal S3x2048x1 .f32) (i : S3x2048x1.Idx) : expoV a i = rexp (a i) := rfl

/-- The reference's exponents are those of its row maxima. -/
theorem pay3_eq (x : Vec Ideal S3x2048x1024 .bf16) : k0_pay3 x = expoV (amaxV x) := rfl

/-- The reference's exponent of row `(b, s)`. -/
theorem pay3_at (x : Vec Ideal S3x2048x1024 .bf16) (b : Fin 3) (s : Fin 2048) (u : Fin 1) :
    k0_pay3 x (ix3 b s u) = rexp (rowMax (xrow x b s)) := by
  rw [pay3_eq, expo_at, amax_at]

/-- A power of two at an index. -/
theorem exp2_at (v : FVec Ideal S3x2048x1 .f32) (i : S3x2048x1.Idx) : exp2 v i = Ideal.exp2 (v i) := rfl

/-- The reference's scales. -/
theorem pay4_eq (x : Vec Ideal S3x2048x1024 .bf16) : k0_pay4 x = exp2 (k0_pay3 x) := rfl

/-- The reference's scale of row `(b, s)`. -/
theorem pay4_at (x : Vec Ideal S3x2048x1024 .bf16) (b : Fin 3) (s : Fin 2048) (u : Fin 1) :
    k0_pay4 x (ix3 b s u) = rscale (rowMax (xrow x b s)) := by
  rw [pay4_eq, exp2_at, pay3_at]
  unfold rscale
  rfl

/-- The codes of `x` at the exponents `e`, as the reference's text computes them. -/
def codeV (x : FVec Ideal S3x2048x1024 .f32) (e : FVec Ideal S3x2048x1 .f32) : FVec Ideal S3x2048x1024 .fp8e4m3 :=
  truncf .fp8e4m3 (minimumf (broadcast S3x2048x1024 (Scalar.ofBits .f32 0x43E00000#32 : Ideal .f32))
    (maximumf (broadcast S3x2048x1024 (Scalar.ofBits .f32 0xC3E00000#32 : Ideal .f32))
      (mulf x (broadcastTo S3x2048x1024 (exp2 (subf (broadcast S3x2048x1 (Scalar.ofBits .f32 0x00000000#32 : Ideal .f32)) e)) broadcasts_S3x2048x1_S3x2048x1024))))
    bitsLt_fp8e4m3_f32

/-- The codes at an index. -/
theorem code_at (x : FVec Ideal S3x2048x1024 .f32) (e : FVec Ideal S3x2048x1 .f32) (b : Fin 3) (s : Fin 2048) (k : Fin 1024) :
    codeV x e (ix3 b s k) = code (x (ix3 b s k)) (Ideal.exp2 (Ideal.ofBits .f32 0x00000000#32 - e (ix3 b s 0))) := by
  have h : broadcastTo S3x2048x1024 (exp2 (subf (broadcast S3x2048x1 (Scalar.ofBits .f32 0x00000000#32 : Ideal .f32)) e)) broadcasts_S3x2048x1_S3x2048x1024 (ix3 b s k)
      = Ideal.exp2 (Ideal.ofBits .f32 0x00000000#32 - e (ix3 b s 0)) :=
    (broadcastTo_apply _ _ _ (ix3 b s 0) (fun a => by fin_cases a <;> rfl)).trans rfl
  rw [← h]
  rfl

/-- The reference's codes. -/
theorem pay5_eq (x : Vec Ideal S3x2048x1024 .bf16) : k0_pay5 x = codeV (k0_pay2 x) (k0_pay3 x) := rfl

/-- The reference's code at `(b, s, k)`. -/
theorem pay5_at (x : Vec Ideal S3x2048x1024 .bf16) (b : Fin 3) (s : Fin 2048) (k : Fin 1024) :
    k0_pay5 x (ix3 b s k) = code (x (ix3 b s k)) (rinv (rowMax (xrow x b s))) := by
  rw [pay5_eq, code_at, pay3_at]
  rfl

/-- A product of the whole arrays at an index. -/
theorem dot_at (q : FVec Ideal S3x2048x1024 .fp8e4m3) (w : FVec Ideal S1024x8192 .fp8e4m3) (b : Fin 3) (s : Fin 2048) (n : Fin 8192) :
    matmul dot_S3x2048x1024_S1024x8192_S3x2048x8192_2_0_01_1_n_n none q w (constant S3x2048x8192 .f32 0x00000000#32) (ix3 b s n)
      = ∑ k : Fin 1024, q (ix3 b s k) * w (ix2 k n) := by
  refine (Ideal.matmul_constant_zero_apply dot_S3x2048x1024_S1024x8192_S3x2048x8192_2_0_01_1_n_n none q w (ix3 b s n)).trans ?_
  refine Fintype.sum_equiv (contrEquiv1 dot_S3x2048x1024_S1024x8192_S3x2048x8192_2_0_01_1_n_n 1024 rfl rfl) _ _ fun c => ?_
  have e1 : (dot_S3x2048x1024_S1024x8192_S3x2048x8192_2_0_01_1_n_n).lhsIdx (ix3 b s n) c
      = ix3 b s (contrEquiv1 dot_S3x2048x1024_S1024x8192_S3x2048x8192_2_0_01_1_n_n 1024 rfl rfl c) := by
    funext a; fin_cases a <;> simp [DotDims.lhsIdx, dot_S3x2048x1024_S1024x8192_S3x2048x8192_2_0_01_1_n_n] <;> rfl
  have e2 : (dot_S3x2048x1024_S1024x8192_S3x2048x8192_2_0_01_1_n_n).rhsIdx (ix3 b s n) c
      = ix2 (contrEquiv1 dot_S3x2048x1024_S1024x8192_S3x2048x8192_2_0_01_1_n_n 1024 rfl rfl c) n := by
    funext a; fin_cases a <;> simp [DotDims.rhsIdx, dot_S3x2048x1024_S1024x8192_S3x2048x8192_2_0_01_1_n_n] <;> rfl
  rw [e1, e2]

/-- A product scaled by row and by column, as the reference's text computes it. -/
def scaledV (d : FVec Ideal S3x2048x8192 .f32) (sc : FVec Ideal S3x2048x1 .f32) (ws : Vec Ideal S8192 .f32) : FVec Ideal S3x2048x8192 .f32 :=
  mulf (mulf d (broadcastTo S3x2048x8192 sc broadcasts_S3x2048x1_S3x2048x8192))
    (broadcastTo S3x2048x8192 (shapeCast S1x1x8192 ws shapeCasts_S8192_S1x1x8192) broadcasts_S1x1x8192_S3x2048x8192)

/-- The scaled product at an index. -/
theorem scaled_at (d : FVec Ideal S3x2048x8192 .f32) (sc : FVec Ideal S3x2048x1 .f32) (ws : Vec Ideal S8192 .f32) (b : Fin 3) (s : Fin 2048)
    (n : Fin 8192) : scaledV d sc ws (ix3 b s n) = d (ix3 b s n) * sc (ix3 b s 0) * ws (ix1 n) := by
  have h2 : broadcastTo S3x2048x8192 sc broadcasts_S3x2048x1_S3x2048x8192 (ix3 b s n) = sc (ix3 b s 0) :=
    broadcastTo_apply _ _ _ (ix3 b s 0) (fun a => by fin_cases a <;> rfl)
  have h3 : broadcastTo S3x2048x8192 (shapeCast S1x1x8192 ws shapeCasts_S8192_S1x1x8192) broadcasts_S1x1x8192_S3x2048x8192 (ix3 b s n) = ws (ix1 n) := by
    refine (broadcastTo_apply _ _ _ (ix3 0 0 n) (fun a => by fin_cases a <;> rfl)).trans ?_
    refine shapeCast_apply _ _ _ _ ?_
    rw [Shape.rowMajor_val_one, Shape.rowMajor_val_three]
    show n.val = (0 * 1 + 0) * 8192 + n.val
    omega
  rw [← h2, ← h3]
  rfl

/-- The reference's scaled product. -/
theorem pay6_eq (x : Vec Ideal S3x2048x1024 .bf16) (w : Vec Ideal S1024x8192 .fp8e4m3) (ws : Vec Ideal S8192 .f32) :
    k0_pay6 x w ws = scaledV (matmul (φ₂ := .fp8e4m3) dot_S3x2048x1024_S1024x8192_S3x2048x8192_2_0_01_1_n_n none (k0_pay5 x) w (constant S3x2048x8192 .f32 0x00000000#32))
      (k0_pay4 x) ws := rfl

/-- The result at `(b, p, r, n)` is the scaled product plus the residual at `(b, 8 p + r, n)`. -/
theorem pay1_apply (d : FVec Ideal S3x2048x8192 .f32) (res : Vec Ideal S3x2048x8192 .bf16) (b : Fin 3) (p : Fin 256) (r : Fin 8)
    (n : Fin 8192) (s : Fin 2048) (hs : s.val = p.val * 8 + r.val) : k0_pay1 d res (ix4 b p r n) = d (ix3 b s n) + res (ix3 b s n) := by
  refine (shapeCast_apply (truncf .bf16 (addf d (extf .f32 res bitsLt_bf16_f32)) bitsLt_bf16_f32) _ (ix4 b p r n) (ix3 b s n) ?_).trans rfl
  rw [Shape.rowMajor_val_three, Shape.rowMajor_val_four]
  show (b.val * 2048 + s.val) * 8192 + n.val = ((b.val * 256 + p.val) * 8 + r.val) * 8192 + n.val
  omega

/-- The reference's result at `(b, s / 8, s % 8, n)`. -/
theorem pay1_at (x : Vec Ideal S3x2048x1024 .bf16) (w : Vec Ideal S1024x8192 .fp8e4m3) (ws : Vec Ideal S8192 .f32)
    (res : Vec Ideal S3x2048x8192 .bf16) (b : Fin 3) (p : Fin 256) (r : Fin 8) (n : Fin 8192) (s : Fin 2048) (hs : s.val = p.val * 8 + r.val) :
    k0_pay1 (k0_pay6 x w ws) res (ix4 b p r n)
      = entry (fun k => code (x (ix3 b s k)) (rinv (rowMax (xrow x b s)))) (fun k => w (ix2 k n)) (rscale (rowMax (xrow x b s)))
          (ws (ix1 n)) (res (ix3 b s n)) := by
  rw [pay1_apply _ _ b p r n s hs, pay6_eq, scaled_at, dot_at, pay4_at]
  unfold entry
  simp only [pay5_at]

end Cert.Proof.Reference

end
-- ==== Proof.Equality.lean ====
/- The kernel's arrays are the reference's, when every activation is at most the largest finite bf16 value in magnitude. -/
module

public import proofs.«01_k».proof.Proof.KernelArray
public import proofs.«01_k».proof.Proof.ReferenceValue

@[expose] public section

noncomputable section

namespace Cert.Proof.Equality

open Idealize.ShloMosaic Idealize.ShloMosaic.ValueIdx Cert.Proof.Row Cert.Proof.Exponent
open Cert.KernelIdeal (S3x2048x1024 S1024x8192 S8192 S3x2048x8192)

variable (x : Vec Ideal S3x2048x1024 .bf16) (w : Vec Ideal S1024x8192 .fp8e4m3) (ws : Vec Ideal S8192 .f32) (res : Vec Ideal S3x2048x8192 .bf16)

/-- Every activation is at most the largest finite bf16 value in magnitude. -/
def Bounded : Prop := ∀ (b : Fin 3) (s : Fin 2048) (k : Fin 1024), max (x (ix3 b s k)) (-(x (ix3 b s k))) ≤ Ideal.ofBits .f32 0x7F7F0000#32

/-- The scales agree. -/
theorem scales_eq (h : Bounded x) : Reference.G6 x w ws res = Kernel.scalesG x := by
  funext i
  rw [eq_ix3 (n0 := 3) (n1 := 2048) (n2 := 1) i]
  exact (Reference.pay4_at x (i 0) (i 1) (i 2)).trans (scales_agree _ (h (i 0) (i 1))).1.symm

/-- The codes agree. -/
theorem codes_eq (h : Bounded x) : Reference.G5 x w ws res = Kernel.codesG x := by
  funext i
  rw [eq_ix3 (n0 := 3) (n1 := 2048) (n2 := 1024) i]
  exact (Reference.pay5_at x (i 0) (i 1) (i 2)).trans (congrArg (code _) (scales_agree _ (h (i 0) (i 1))).2.symm)

/-- The results agree at an index. -/
theorem results_at (h : Bounded x) (b : Fin 3) (p : Fin 256) (r : Fin 8) (n : Fin 8192) :
    Reference.G4 x w ws res (ix4 b p r n) = Kernel.resultG x w ws res (ix4 b p r n) := by
  refine (Reference.pay1_at x w ws res b p r n (Kernel.rowOfLead p r) rfl).trans ?_
  obtain ⟨e1, e2⟩ := scales_agree _ (h b (Kernel.rowOfLead p r))
  show entry _ _ (rscale (rowMax (Kernel.xrow x b (Kernel.rowOfLead p r)))) _ _ = entry _ _ (kscale (rowMax (Kernel.xrow x b (Kernel.rowOfLead p r)))) _ _
  unfold Kernel.xrow
  rw [e1, e2]

/-- The results agree. -/
theorem results_eq (h : Bounded x) : Reference.G4 x w ws res = Kernel.resultG x w ws res := by
  funext i
  rw [eq_ix4 (n0 := 3) (n1 := 256) (n2 := 8) (n3 := 8192) i]
  exact results_at x w ws res h (i 0) (i 1) (i 2) (i 3)

end Cert.Proof.Equality

end
-- ==== Proof.Precondition.lean ====
/- What the precondition `finite` says of the activations, over the extended reals. -/
module

public import proofs.«01_k».proof.Pre_finite
public import Idealize.ShloMosaic.Lib.ReduceAll
public import Idealize.ShloMosaic.PureOps.Ideal.Laws

@[expose] public section

noncomputable section

namespace Cert.Proof.Precondition

open Cert.Pre_finite Idealize.ShloMosaic

/-- The side conditions of the precondition's operations. -/
instance facts : Cert.Pre_finite.Facts where
  bitsLt_bf16_f32 := by decide
  bcast_S_S3x2048x1024 := by decide
  reducesTo_S3x2048x1024_S_d0_1_2 := by decide
  h_S_ := by decide

/-- The comparison the precondition takes of every activation. -/
def inRange (x : FVec Ideal S3x2048x1024 .bf16) : IVec S3x2048x1024 1 :=
  cmpf .ole (Host.absf (extf .f32 x Facts.bitsLt_bf16_f32)) (broadcastInDim S3x2048x1024 ![] Facts.bcast_S_S3x2048x1024 (constant S_ .f32 0x7F7F0000#32))

/-- A comparison that came out true bounds the element's magnitude. -/
theorem inRange_le (x : FVec Ideal S3x2048x1024 .bf16) (i : S3x2048x1024.Idx) (h : inRange x i = 1#1) :
    max (x i) (-(x i)) ≤ Ideal.ofBits .f32 0x7F7F0000#32 := by
  have h' : BitVec.ofBool (decide (max (x i) (-(x i)) ≤ Ideal.ofBits .f32 0x7F7F0000#32)) = 1#1 := h
  by_contra hn
  rw [decide_eq_false hn] at h'
  exact absurd h' (by decide)

instance : Subsingleton S_.Idx := ⟨fun a b => funext fun k => k.elim0⟩

/-- The precondition is the conjunction of those comparisons. -/
theorem fn_eq (x : FVec Ideal S3x2048x1024 .bf16) (w : FVec Ideal S1024x8192 .fp8e4m3) (ws : FVec Ideal S8192 .f32)
    (res : FVec Ideal S3x2048x8192 .bf16) :
    Cert.Pre_finite.fn x w ws res = Host.reduce IntOp.andi (inRange x) (constantI S_ 1 1#1) Facts.reducesTo_S3x2048x1024_S_d0_1_2 Facts.h_S_ := by
  unfold Cert.Pre_finite.fn inRange
  rfl

/-- Under the precondition every activation is at most the largest finite bf16 value in magnitude. -/
theorem bounded (x : FVec Ideal S3x2048x1024 .bf16) (w : FVec Ideal S1024x8192 .fp8e4m3) (ws : FVec Ideal S8192 .f32)
    (res : FVec Ideal S3x2048x8192 .bf16) (h : Cert.Pre_finite.fn x w ws res = fun _ => 1#1) (i : S3x2048x1024.Idx) :
    max (x i) (-(x i)) ≤ Ideal.ofBits .f32 0x7F7F0000#32 := by
  rw [fn_eq] at h
  exact inRange_le x i (Host.reduce_andi_all (inRange x) _ _ _ (fun k => k.elim0) (congrFun h _) i)

end Cert.Proof.Precondition

end
-- ==== Proof.lean ====
module

public import proofs.«01_k».proof.Proof.Gen.KernelIdeal.Value
public import proofs.«01_k».proof.Proof.Equality
public import proofs.«01_k».proof.Proof.Precondition
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- Over the extended reals the kernel and the reference end with the same three arrays, when every activation is finite. -/
theorem algebraic : Cert.algebraic_KernelIdeal_ReferenceIdeal_pre_finite := by
  intro m g m' g' hpre hargs
  have hb : ∀ c : Dev Cert.KernelIdeal.nD, Equality.Bounded (m ((c.tc : Thread Cert.KernelIdeal.nD Cert.KernelIdeal.τ).loc Cert.KernelIdeal.main_arg0)) :=
    fun c b s k => Precondition.bounded _ _ _ _ (hpre c) (ValueIdx.ix3 b s k)
  refine ⟨_, _, _, Kernel.run m g, (θ_run Cert.ReferenceIdeal.defs _ _).mono (fun r h c => ?_) (Reference.run m' g')⟩
  obtain ⟨a0, a1, a2, a3⟩ := hargs c
  obtain ⟨h4, h5, h6, hk⟩ := h c
  rw [a0, a1, a2, a3] at h4 h5 h6
  exact ⟨h4.trans (Equality.results_eq _ _ _ _ (hb c)), h5.trans (Equality.codes_eq _ _ _ _ (hb c)), h6.trans (Equality.scales_eq _ _ _ _ (hb c)), hk⟩

theorem claim : Cert.Claim :=
  ⟨Cert.Kernel.Gen.facts, Cert.KernelIdeal.Gen.facts, Cert.ReferenceIdeal.Gen.facts, Precondition.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic⟩

end Cert.Proof

end
